-- ==== Defs.lean ====
def Pre_Kernel [hPre_permutation : Cert.Pre_permutation.Facts] (m : (ℓ : Loc Cert.Kernel.nD Cert.Kernel.τ Cert.Kernel.sig) → Buf (Elt Bits) ℓ) : Prop :=
  ∀ c : Dev Cert.Kernel.nD,
    (Cert.Pre_permutation.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_permutation : Cert.Pre_permutation.Facts] (m : (ℓ : Loc Cert.KernelIdeal.nD Cert.KernelIdeal.τ Cert.KernelIdeal.sig) → Buf (Elt Ideal) ℓ) : Prop :=
  ∀ c : Dev Cert.KernelIdeal.nD,
    (Cert.Pre_permutation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_permutation [hPre_permutation : Cert.Pre_permutation.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_permutation.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_permutation : Cert.Pre_permutation.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_permutation : Cert.Pre_permutation.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_permutation [hReferenceIdeal : Cert.ReferenceIdeal.Facts] [hPre_permutation : Cert.Pre_permutation.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_permutation m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_permutation : Cert.Pre_permutation.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_permutation : Cert.Pre_permutation.Facts),
    quiescent_Kernel (hKernel := hKernel) (hPre_permutation := hPre_permutation)
    ∧ quiescent_KernelIdeal (hKernelIdeal := hKernelIdeal) (hPre_permutation := hPre_permutation)
    ∧ quiescent_ReferenceIdeal (hReferenceIdeal := hReferenceIdeal)
    ∧ quiescent_ReferenceIdeal_pre_permutation (hReferenceIdeal := hReferenceIdeal) (hPre_permutation := hPre_permutation)
    ∧ preserves_Kernel_KernelIdeal
    ∧ algebraic_KernelIdeal_ReferenceIdeal (hKernelIdeal := hKernelIdeal) (hReferenceIdeal := hReferenceIdeal) (hPre_permutation := hPre_permutation)
-- ==== Pre_permutation.lean ====
abbrev S8192x16384 : Shape := ⟨2, ![8192, 16384]⟩
abbrev S16384 : Shape := ⟨1, ![16384]⟩
abbrev S_ : Shape := ⟨0, ![]⟩

class Facts : Prop where
  reducesTo_S16384_S_d0 : S16384.ReducesTo [0] S_
  h_S_ : 0 < S_.numel

variable [Facts]

def comparator_i32_d0 : BitVec 32 → BitVec 32 → BitVec 1 :=
  fun l r =>
    let v1 := IntOp.cmpi .slt l r
    v1
def fn_sort {F : FTy → Type} [FloatOps F] (arg0 : IVec S16384 32) : IVec S16384 32 :=
  let v0 : IVec S16384 32 := (fun x => Host.sort S16384 0 comparator_i32_d0 x) arg0
  v0

def fn {F : FTy → Type} [FloatOps F] (main_arg0 : FVec F S8192x16384 .f32) (main_arg1 : FVec F S16384 .f32) : IVec S_ 1 :=
  let main_v0 : IVec S16384 32 := fptosi 32 main_arg1
  let main_v1 : IVec S16384 32 := fn_sort (F := F) main_v0
  let main_v2 : IVec S16384 32 := iotaInDim S16384 32 0
  let main_v3 : IVec S16384 1 := cmpi .eq main_v1 main_v2
  let main_c : IVec S_ 1 := constantI S_ 1 1#1
  let main_v4 : IVec S_ 1 := (fun x v => Host.reduce IntOp.andi x v reducesTo_S16384_S_d0 h_S_) main_v3 main_c
  main_v4
-- ==== Kernel.lean ====
abbrev S8192x16384 : Shape := ⟨2, ![8192, 16384]⟩
abbrev S16384 : Shape := ⟨1, ![16384]⟩
abbrev S_ : Shape := ⟨0, ![]⟩
abbrev S16 : Shape := ⟨1, ![16]⟩
abbrev S1x16384 : Shape := ⟨2, ![1, 16384]⟩

abbrev nBuf : Table → Nat
  | .hbm => 4
  | .local .scVector .vmem => 5
  | _ => 0

abbrev bufTy : (tb : Table) → Fin (nBuf tb) → BufTy
  | .hbm, ⟨0, _⟩ => ⟨S8192x16384, .f32⟩
  | .hbm, ⟨1, _⟩ => ⟨S16384, .f32⟩
  | .hbm, ⟨2, _⟩ => ⟨S8192x16384, .f32⟩
  | .hbm, ⟨3, _⟩ => ⟨S16384, .i32⟩
  | .local .scVector .vmem, ⟨0, _⟩ => ⟨S16384, .i32⟩
  | .local .scVector .vmem, ⟨1, _⟩ => ⟨S16384, .f32⟩
  | .local .scVector .vmem, ⟨2, _⟩ => ⟨S16384, .f32⟩
  | .local .scVector .vmem, ⟨3, _⟩ => ⟨S16384, .f32⟩
  | .local .scVector .vmem, ⟨4, _⟩ => ⟨S16384, .f32⟩
  | _, _ => ⟨S8192x16384, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c1024_i32 : BitVec 32 := 1024#32
  let v2 : BitVec 32 := Scalar.addi c0_i32_0 c1024_i32
  let c1_i32 : BitVec 32 := 1#32
  ⟨c0_i32_0, v2, c1_i32⟩
def k0_off1 (k0_t1 : Fin k0_t1_loop.trips) : Fin 1 → Nat :=
  let c0_i32_0 : BitVec 32 := 0#32
  let c1_i32 : BitVec 32 := 1#32
  let arg15 : BitVec 32 := Scf.iv c0_i32_0 c1_i32 k0_t1
  let c16_i32 : BitVec 32 := 16#32
  let v30 : BitVec 32 := Scalar.muli arg15 c16_i32
  let v31 : Index := Scalar.indexCast v30
  ![v31.toNat]

def k0_chk1 (v33 : IVec S16 32) : Prop :=
  (∀ a x, ((![v33] : Fin 1 → IVec S16 32) a x).toNat < S16384.size a)
theorem k0_idx1_inb : ∀ (v33 : IVec S16 32) (k0_hw1 : k0_chk1 v33), ∀ a x, ((![v33] : Fin 1 → IVec S16 32) a x).toNat < S16384.size a := fun v33 k0_hw1 => k0_hw1
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v7 : BitVec 32 := Scalar.muli v1 c256_i32
  let c0_i32_4 : BitVec 32 := 0#32
  ![v7.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v7 : BitVec 32 := Scalar.muli v1 c256_i32
  let c1_i32_6 : BitVec 32 := 1#32
  let v12 : BitVec 32 := Scalar.addi v7 c1_i32_6
  let c0_i32_7 : BitVec 32 := 0#32
  ![v12.toNat, 0]
@[reducible] def k0_t2_loop : Scf.Loop 32 :=
  let c0_i32_10 : BitVec 32 := 0#32
  let c128_i32 : BitVec 32 := 128#32
  let v17 : BitVec 32 := Scalar.addi c0_i32_10 c128_i32
  let c1_i32_11 : BitVec 32 := 1#32
  ⟨c0_i32_10, v17, c1_i32_11⟩
def k0_off4 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v7 : BitVec 32 := Scalar.muli v1 c256_i32
  let c2_i32_20 : BitVec 32 := 2#32
  let c0_i32_10 : BitVec 32 := 0#32
  let c1_i32_11 : BitVec 32 := 1#32
  let arg15 : BitVec 32 := Scf.iv c0_i32_10 c1_i32_11 k0_t2
  let v30 : BitVec 32 := Scalar.muli c2_i32_20 arg15
  let v31 : BitVec 32 := Scalar.addi v7 v30
  let c0_i32_21 : BitVec 32 := 0#32
  ![v31.toNat, 0]
def k0_cond2 (k0_t2 : Fin k0_t2_loop.trips) : BitVec 1 :=
  let c0_i32_10 : BitVec 32 := 0#32
  let c1_i32_11 : BitVec 32 := 1#32
  let arg15 : BitVec 32 := Scf.iv c0_i32_10 c1_i32_11 k0_t2
  let c0_i32_23 : BitVec 32 := 0#32
  let v36 : BitVec 1 := Scalar.cmpi .sgt arg15 c0_i32_23
  let v37 : BitVec 32 := Scalar.extui v36
  let c0_i32_24 : BitVec 32 := 0#32
  let v38 : BitVec 1 := Scalar.cmpi .ne v37 c0_i32_24
  v38

def k0_off5 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v7 : BitVec 32 := Scalar.muli v1 c256_i32
  let c2_i32_20 : BitVec 32 := 2#32
  let c0_i32_10 : BitVec 32 := 0#32
  let c1_i32_11 : BitVec 32 := 1#32
  let arg15 : BitVec 32 := Scf.iv c0_i32_10 c1_i32_11 k0_t2
  let v30 : BitVec 32 := Scalar.muli c2_i32_20 arg15
  let v31 : BitVec 32 := Scalar.addi v7 v30
  let c0_i32_47 : BitVec 32 := 0#32
  ![v31.toNat, 0]
@[reducible] def k0_t3_loop : Scf.Loop 32 :=
  let c0_i32_25 : BitVec 32 := 0#32
  let c1024_i32_26 : BitVec 32 := 1024#32
  let v39 : BitVec 32 := Scalar.addi c0_i32_25 c1024_i32_26
  let c1_i32_27 : BitVec 32 := 1#32
  ⟨c0_i32_25, v39, c1_i32_27⟩
def k0_off6 (k0_t3 : Fin k0_t3_loop.trips) : Fin 1 → Nat :=
  let c0_i32_47 : BitVec 32 := 0#32
  let c0_i32_25 : BitVec 32 := 0#32
  let c1_i32_27 : BitVec 32 := 1#32
  let arg17 : BitVec 32 := Scf.iv c0_i32_25 c1_i32_27 k0_t3
  let c16_i32 : BitVec 32 := 16#32
  let v64 : BitVec 32 := Scalar.muli arg17 c16_i32
  let v65 : BitVec 32 := Scalar.addi c0_i32_47 v64
  let v66 : Index := Scalar.indexCast v65
  ![v66.toNat]

def k0_chk2 (v67 : IVec S16 32) : Prop :=
  (∀ a x, ((![v67] : Fin 1 → IVec S16 32) a x).toNat < S16384.size a)
theorem k0_idx2_inb : ∀ (v67 : IVec S16 32) (k0_hw2 : k0_chk2 v67), ∀ a x, ((![v67] : Fin 1 → IVec S16 32) a x).toNat < S16384.size a := fun v67 k0_hw2 => k0_hw2
def k0_off7 (k0_t3 : Fin k0_t3_loop.trips) : Fin 1 → Nat :=
  let c0_i32_47 : BitVec 32 := 0#32
  let c0_i32_25 : BitVec 32 := 0#32
  let c1_i32_27 : BitVec 32 := 1#32
  let arg17 : BitVec 32 := Scf.iv c0_i32_25 c1_i32_27 k0_t3
  let c16_i32 : BitVec 32 := 16#32
  let v64 : BitVec 32 := Scalar.muli arg17 c16_i32
  let v65 : BitVec 32 := Scalar.addi c0_i32_47 v64
  let v69 : Index := Scalar.indexCast v65
  ![v69.toNat]
def k0_cond3 (k0_t2 : Fin k0_t2_loop.trips) : BitVec 1 :=
  let c0_i32_10 : BitVec 32 := 0#32
  let c1_i32_11 : BitVec 32 := 1#32
  let arg15 : BitVec 32 := Scf.iv c0_i32_10 c1_i32_11 k0_t2
  let c127_i32 : BitVec 32 := 127#32
  let v44 : BitVec 1 := Scalar.cmpi .slt arg15 c127_i32
  let v45 : BitVec 32 := Scalar.extui v44
  let c0_i32_31 : BitVec 32 := 0#32
  let v46 : BitVec 1 := Scalar.cmpi .ne v45 c0_i32_31
  v46

def k0_off8 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v7 : BitVec 32 := Scalar.muli v1 c256_i32
  let c2_i32_20 : BitVec 32 := 2#32
  let c0_i32_10 : BitVec 32 := 0#32
  let c1_i32_11 : BitVec 32 := 1#32
  let arg15 : BitVec 32 := Scf.iv c0_i32_10 c1_i32_11 k0_t2
  let v30 : BitVec 32 := Scalar.muli c2_i32_20 arg15
  let v31 : BitVec 32 := Scalar.addi v7 v30
  let c2_i32_47 : BitVec 32 := 2#32
  let v64 : BitVec 32 := Scalar.addi v31 c2_i32_47
  let c0_i32_48 : BitVec 32 := 0#32
  ![v64.toNat, 0]
def k0_off9 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v7 : BitVec 32 := Scalar.muli v1 c256_i32
  let c2_i32_20 : BitVec 32 := 2#32
  let c0_i32_10 : BitVec 32 := 0#32
  let c1_i32_11 : BitVec 32 := 1#32
  let arg15 : BitVec 32 := Scf.iv c0_i32_10 c1_i32_11 k0_t2
  let v30 : BitVec 32 := Scalar.muli c2_i32_20 arg15
  let v31 : BitVec 32 := Scalar.addi v7 v30
  let c1_i32_32 : BitVec 32 := 1#32
  let v47 : BitVec 32 := Scalar.addi v31 c1_i32_32
  let c0_i32_33 : BitVec 32 := 0#32
  ![v47.toNat, 0]
def k0_cond4 (k0_t2 : Fin k0_t2_loop.trips) : BitVec 1 :=
  let c0_i32_10 : BitVec 32 := 0#32
  let c1_i32_11 : BitVec 32 := 1#32
  let arg15 : BitVec 32 := Scf.iv c0_i32_10 c1_i32_11 k0_t2
  let c0_i32_35 : BitVec 32 := 0#32
  let v52 : BitVec 1 := Scalar.cmpi .sgt arg15 c0_i32_35
  let v53 : BitVec 32 := Scalar.extui v52
  let c0_i32_36 : BitVec 32 := 0#32
  let v54 : BitVec 1 := Scalar.cmpi .ne v53 c0_i32_36
  v54

def k0_off10 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v7 : BitVec 32 := Scalar.muli v1 c256_i32
  let c2_i32_20 : BitVec 32 := 2#32
  let c0_i32_10 : BitVec 32 := 0#32
  let c1_i32_11 : BitVec 32 := 1#32
  let arg15 : BitVec 32 := Scf.iv c0_i32_10 c1_i32_11 k0_t2
  let v30 : BitVec 32 := Scalar.muli c2_i32_20 arg15
  let v31 : BitVec 32 := Scalar.addi v7 v30
  let c0_i32_47 : BitVec 32 := 0#32
  ![v31.toNat, 0]
@[reducible] def k0_t4_loop : Scf.Loop 32 :=
  let c0_i32_37 : BitVec 32 := 0#32
  let c1024_i32_38 : BitVec 32 := 1024#32
  let v55 : BitVec 32 := Scalar.addi c0_i32_37 c1024_i32_38
  let c1_i32_39 : BitVec 32 := 1#32
  ⟨c0_i32_37, v55, c1_i32_39⟩
def k0_off11 (k0_t4 : Fin k0_t4_loop.trips) : Fin 1 → Nat :=
  let c0_i32_47 : BitVec 32 := 0#32
  let c0_i32_37 : BitVec 32 := 0#32
  let c1_i32_39 : BitVec 32 := 1#32
  let arg17 : BitVec 32 := Scf.iv c0_i32_37 c1_i32_39 k0_t4
  let c16_i32 : BitVec 32 := 16#32
  let v64 : BitVec 32 := Scalar.muli arg17 c16_i32
  let v65 : BitVec 32 := Scalar.addi c0_i32_47 v64
  let v66 : Index := Scalar.indexCast v65
  ![v66.toNat]

def k0_chk3 (v67 : IVec S16 32) : Prop :=
  (∀ a x, ((![v67] : Fin 1 → IVec S16 32) a x).toNat < S16384.size a)
theorem k0_idx3_inb : ∀ (v67 : IVec S16 32) (k0_hw3 : k0_chk3 v67), ∀ a x, ((![v67] : Fin 1 → IVec S16 32) a x).toNat < S16384.size a := fun v67 k0_hw3 => k0_hw3
def k0_off12 (k0_t4 : Fin k0_t4_loop.trips) : Fin 1 → Nat :=
  let c0_i32_47 : BitVec 32 := 0#32
  let c0_i32_37 : BitVec 32 := 0#32
  let c1_i32_39 : BitVec 32 := 1#32
  let arg17 : BitVec 32 := Scf.iv c0_i32_37 c1_i32_39 k0_t4
  let c16_i32 : BitVec 32 := 16#32
  let v64 : BitVec 32 := Scalar.muli arg17 c16_i32
  let v65 : BitVec 32 := Scalar.addi c0_i32_47 v64
  let v69 : Index := Scalar.indexCast v65
  ![v69.toNat]
def k0_cond5 (k0_t2 : Fin k0_t2_loop.trips) : BitVec 1 :=
  let c0_i32_10 : BitVec 32 := 0#32
  let c1_i32_11 : BitVec 32 := 1#32
  let arg15 : BitVec 32 := Scf.iv c0_i32_10 c1_i32_11 k0_t2
  let c127_i32_44 : BitVec 32 := 127#32
  let v61 : BitVec 1 := Scalar.cmpi .slt arg15 c127_i32_44
  let v62 : BitVec 32 := Scalar.extui v61
  let c0_i32_45 : BitVec 32 := 0#32
  let v63 : BitVec 1 := Scalar.cmpi .ne v62 c0_i32_45
  v63

def k0_off13 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v7 : BitVec 32 := Scalar.muli v1 c256_i32
  let c2_i32_20 : BitVec 32 := 2#32
  let c0_i32_10 : BitVec 32 := 0#32
  let c1_i32_11 : BitVec 32 := 1#32
  let arg15 : BitVec 32 := Scf.iv c0_i32_10 c1_i32_11 k0_t2
  let v30 : BitVec 32 := Scalar.muli c2_i32_20 arg15
  let v31 : BitVec 32 := Scalar.addi v7 v30
  let c3_i32 : BitVec 32 := 3#32
  let v64 : BitVec 32 := Scalar.addi v31 c3_i32
  let c0_i32_47 : BitVec 32 := 0#32
  ![v64.toNat, 0]
def k0_off14 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v7 : BitVec 32 := Scalar.muli v1 c256_i32
  let c256_i32_13 : BitVec 32 := 256#32
  let v19 : BitVec 32 := Scalar.addi v7 c256_i32_13
  let c2_i32_14 : BitVec 32 := 2#32
  let v20 : BitVec 32 := Scalar.subi v19 c2_i32_14
  let c0_i32_15 : BitVec 32 := 0#32
  ![v20.toNat, 0]
def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v7 : BitVec 32 := Scalar.muli v1 c256_i32
  let c256_i32_13 : BitVec 32 := 256#32
  let v19 : BitVec 32 := Scalar.addi v7 c256_i32_13
  let c2_i32_14 : BitVec 32 := 2#32
  let v20 : BitVec 32 := Scalar.subi v19 c2_i32_14
  let c1_i32_17 : BitVec 32 := 1#32
  let v25 : BitVec 32 := Scalar.addi v20 c1_i32_17
  let c0_i32_18 : BitVec 32 := 0#32
  ![v25.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x16384 : Shape := ⟨2, ![8192, 16384]⟩
abbrev S16384 : Shape := ⟨1, ![16384]⟩
abbrev S_ : Shape := ⟨0, ![]⟩
abbrev S16384x1 : Shape := ⟨2, ![16384, 1]⟩

abbrev nBuf : Space → Nat
  | .hbm => 14
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S16384, .f32⟩
  | .hbm, ⟨2, _⟩ => ⟨S16384, .i32⟩
  | .hbm, ⟨3, _⟩ => ⟨S16384, .f32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S8192x16384, .f32⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Permute.Values.lean ====
/- The values of the kernel, apart from any memory: the inverse of a permutation given as a vector of words,
   what a scatter to distinct places leaves, and the array the kernel is to write. -/
module

public import proofs.«01_k».proof.Proof.Gen.KernelIdeal
public import proofs.«01_k».proof.Proof.Gen.KernelIdeal.Skeleton

@[expose] public section

noncomputable section

namespace Cert.Permute

open Idealize.ShloMosaic Cert.KernelIdeal

/-! ## Places -/

/-- Place `n` of a vector of 16384 (counted round past its end). -/
def pos (n : Nat) : S16384.Idx := fun a => ⟨n % S16384.size a, Nat.mod_lt _ (by match a with | 0 => decide)⟩

/-- Row `r`, column `n` of the array (counted round past its ends). -/
def cell (r n : Nat) : S8192x16384.Idx := fun a =>
  ⟨(![r, n] : Fin 2 → Nat) a % S8192x16384.size a, Nat.mod_lt _ (by match a with | 0 => decide | 1 => decide)⟩

/-- A place has its number. -/
theorem pos_val {n : Nat} (h : n < 16384) : ((pos n) 0).val = n := Nat.mod_eq_of_lt h

/-- A cell has its row. -/
theorem cell_row {r : Nat} (n : Nat) (h : r < 8192) : ((cell r n) 0).val = r := Nat.mod_eq_of_lt h

/-- A cell has its column. -/
theorem cell_col (r : Nat) {n : Nat} (h : n < 16384) : ((cell r n) 1).val = n := Nat.mod_eq_of_lt h

/-- There are 16384 places. -/
theorem idx_lt (j : S16384.Idx) : (j 0).val < 16384 := (j 0).isLt

/-- There are 8192 rows. -/
theorem row_lt (j : S8192x16384.Idx) : (j 0).val < 8192 := (j 0).isLt

/-- There are 16384 columns. -/
theorem col_lt (j : S8192x16384.Idx) : (j 1).val < 16384 := (j 1).isLt

/-- Two places of a vector are the same place when they have the same number. -/
theorem idx_ext {i j : S16384.Idx} (h : (i 0).val = (j 0).val) : i = j := by
  funext a
  have ha : a = 0 := Subsingleton.elim _ _
  subst ha
  exact Fin.ext h

/-- Two places of the array are the same place when their rows and their columns agree. -/
theorem cell_ext {i j : S8192x16384.Idx} (h0 : (i 0).val = (j 0).val) (h1 : (i 1).val = (j 1).val) : i = j := by
  funext a
  match a with
  | 0 => exact Fin.ext h0
  | 1 => exact Fin.ext h1

/-- The place of a place's number is the place. -/
theorem pos_self (j : S16384.Idx) : pos (j 0).val = j := idx_ext (pos_val (idx_lt j))

/-- The cell of a cell's row and column is the cell. -/
theorem cell_self (j : S8192x16384.Idx) : cell (j 0).val (j 1).val = j :=
  cell_ext (cell_row _ (row_lt j)) (cell_col _ (col_lt j))

/-! ## The inverse of a permutation -/

/-- The words `q` name each of the 16384 places at most once, and nothing else. -/
structure IsPerm (q : IVec S16384 32) : Prop where
  lt : ∀ j, (q j).toNat < 16384
  inj : ∀ i j, (q i).toNat = (q j).toNat → i = j

/-- Every place is named. -/
theorem IsPerm.surj {q : IVec S16384 32} (h : IsPerm q) (i : S16384.Idx) : ∃ j, (q j).toNat = (i 0).val := by
  have hf : Function.Injective (fun j => pos (q j).toNat) := fun a b hab => by
    refine h.inj a b ?_
    have := congrArg (fun z : S16384.Idx => (z 0).val) hab
    simpa only [pos_val (h.lt _)] using this
  obtain ⟨j, hj⟩ := (Finite.injective_iff_surjective.1 hf) i
  refine ⟨j, ?_⟩
  have := congrArg (fun z : S16384.Idx => (z 0).val) hj
  simpa only [pos_val (h.lt _)] using this

open Classical in
/-- The inverse, as words: at place `i`, the number of the place whose word is `i`. -/
def invWord (q : IVec S16384 32) : IVec S16384 32 := fun i =>
  if h : ∃ j, (q j).toNat = (i 0).val then BitVec.ofNat 32 (h.choose 0).val else 0#32

/-- A place number fits in a word. -/
theorem ofNat_toNat {n : Nat} (h : n < 16384) : (BitVec.ofNat 32 n).toNat = n := by
  rw [BitVec.toNat_ofNat]; exact Nat.mod_eq_of_lt (by omega)

/-- Every word of the inverse is a place number. -/
theorem invWord_lt (q : IVec S16384 32) (i : S16384.Idx) : (invWord q i).toNat < 16384 := by
  unfold invWord
  split
  · rename_i h
    rw [ofNat_toNat (idx_lt _)]; exact idx_lt _
  · decide

/-- At the place a word names, the inverse holds the word's own place. -/
theorem invWord_at {q : IVec S16384 32} (hq : IsPerm q) {i j : S16384.Idx} (h : (q j).toNat = (i 0).val) :
    invWord q i = BitVec.ofNat 32 (j 0).val := by
  unfold invWord
  have hx : ∃ j, (q j).toNat = (i 0).val := ⟨j, h⟩
  rw [dif_pos hx, hq.inj hx.choose j (hx.choose_spec.trans h.symm)]

/-- A vector that agrees with the places at every named place is the inverse. -/
theorem eq_invWord {q : IVec S16384 32} (hq : IsPerm q) {f : IVec S16384 32}
    (h : ∀ j, f (pos (q j).toNat) = BitVec.ofNat 32 (j 0).val) : f = invWord q := by
  funext i
  obtain ⟨j, hj⟩ := hq.surj i
  rw [invWord_at hq hj, ← h j, hj, pos_self]

/-! ## A scatter to distinct places -/

section Scatter

variable {κ ι α : Type*} (P : κ → ι → Prop) [∀ k j, Decidable (P k j)] (w : κ → α)

/-- Writes in turn leave a place none of them names as it was. -/
theorem foldl_untouched (l : List κ) (f : ι → α) (j : ι) (h : ∀ k ∈ l, ¬ P k j) :
    (l.foldl (fun g k => fun j => if P k j then w k else g j) f) j = f j := by
  induction l generalizing f with
  | nil => rfl
  | cons a l ih =>
    rw [List.foldl_cons, ih _ (fun k hk => h k (List.mem_cons_of_mem _ hk)), if_neg (h a List.mem_cons_self)]

/-- Writes in turn leave, at a place just one of them names, what that one writes. -/
theorem foldl_written (l : List κ) (f : ι → α) (j : ι) (k₀ : κ) (hm : k₀ ∈ l) (hP : P k₀ j)
    (h : ∀ k ∈ l, P k j → k = k₀) :
    (l.foldl (fun g k => fun j => if P k j then w k else g j) f) j = w k₀ := by
  induction l generalizing f with
  | nil => exact absurd hm List.not_mem_nil
  | cons a l ih =>
    rw [List.foldl_cons]
    by_cases hl : k₀ ∈ l
    · exact ih _ hl (fun k hk => h k (List.mem_cons_of_mem _ hk))
    · have ha : k₀ = a := (List.mem_cons.1 hm).resolve_right hl
      subst ha
      rw [foldl_untouched P w l _ j (fun k hk hp => hl (h k (List.mem_cons_of_mem _ hk) hp ▸ hk)), if_pos hP]

end Scatter

variable {F : FTy → Type} [FloatOps F]

/-- An unmasked scatter, place by place. -/
theorem storeIdx_apply (f : IVec S16384 32) (v w : IVec S16 32)
    (h : ∀ a x, ((![v] : Fin 1 → IVec S16 32) a x).toNat < S16384.size a) :
    (storeIdx (F := F) (e := .i32) f ![v] w (fun _ => 1#1) false h : IVec S16384 32)
      = (List.finRange 16).foldl (fun (g : IVec S16384 32) (k : Fin 16) => fun j =>
          if (j 0).val = (v (Shape.ofLane k)).toNat then w (Shape.ofLane k) else g j) f := by
  unfold storeIdx
  refine congrArg (fun s => List.foldl s f (List.finRange 16)) ?_
  funext g k
  simp only [if_true]
  funext j
  by_cases hc : (j 0).val = (v (Shape.ofLane k)).toNat
  · rw [if_pos hc]
    refine if_pos fun a => ?_
    have ha : a = 0 := Subsingleton.elim _ _
    subst ha
    exact hc
  · rw [if_neg hc]
    exact if_neg fun hh => hc (hh 0)

/-- The place a lane of a sixteen-lane vector stands at. -/
theorem ofLane_val (k : Fin 16) : ((Shape.ofLane (d := ![16]) k : S16.Idx) 0).val = k.val := rfl

/-- The loop's counter at trip `t`, as a word. -/
theorem iv_val (t : Nat) : Scf.iv 0#32 1#32 t = BitVec.ofNat 32 t := by
  simp [Scf.iv]

/-- What trip `t` of the inverting loop stores: the numbers of the sixteen places it reads. -/
theorem pay_apply (t : Fin k0_t1_loop.trips) (x : S16.Idx) :
    Gen.k0_pay1 t x = BitVec.ofNat 32 (16 * t.val + (x 0).val) := by
  have ht : t.val < 1024 := lt_of_lt_of_le t.isLt Gen.k0_t1_abs.2.1
  have hx : (x 0).val < 16 := (x 0).isLt
  show BitVec.ofNat 32 (0 * 16 + (x 0).val) + Scf.iv 0#32 1#32 t * 16#32 = _
  rw [iv_val]
  apply BitVec.eq_of_toNat_eq
  simp only [BitVec.toNat_add, BitVec.toNat_mul, BitVec.toNat_ofNat]
  omega

/-- One trip of the inverting loop: when the places before `16 t` have been entered into the inverse, and the
    sixteen words from `16 t` on are scattered, the places before `16 (t + 1)` have been entered. -/
theorem scatter_step {q : IVec S16384 32} (hq : IsPerm q) {f : IVec S16384 32} {v w : IVec S16 32} {t : Nat}
    (ht : t < 1024) (hv : ∀ x, v x = q (pos (16 * t + (x 0).val)))
    (hw : ∀ x, w x = BitVec.ofNat 32 (16 * t + (x 0).val))
    (h : ∀ a x, ((![v] : Fin 1 → IVec S16 32) a x).toNat < S16384.size a)
    (hf : ∀ j : S16384.Idx, (j 0).val < 16 * t → f (pos (q j).toNat) = BitVec.ofNat 32 (j 0).val) :
    ∀ j : S16384.Idx, (j 0).val < 16 * (t + 1) →
      (storeIdx (F := F) (e := .i32) f ![v] w (fun _ => 1#1) false h : IVec S16384 32) (pos (q j).toNat)
        = BitVec.ofNat 32 (j 0).val := by
  intro j hj
  rw [storeIdx_apply]
  -- a lane names the place of `j` only when it reads `j`
  have key : ∀ k : Fin 16, ((pos (q j).toNat) 0).val = (v (Shape.ofLane k)).toNat → (j 0).val = 16 * t + k.val := by
    intro k hk
    rw [pos_val (hq.lt _), hv] at hk
    have := hq.inj _ _ hk
    rw [this, ofLane_val, pos_val (by omega)]
  by_cases hjt : (j 0).val < 16 * t
  · rw [foldl_untouched (P := fun (k : Fin 16) (j : S16384.Idx) => (j 0).val = (v (Shape.ofLane k)).toNat)]
    · exact hf j hjt
    · intro k _ hk
      have := key k hk
      omega
  · obtain ⟨k, hk⟩ : ∃ k : Fin 16, (j 0).val = 16 * t + k.val := ⟨⟨(j 0).val - 16 * t, by omega⟩, by simp; omega⟩
    rw [foldl_written (P := fun (k : Fin 16) (j : S16384.Idx) => (j 0).val = (v (Shape.ofLane k)).toNat)
      (w := fun k => w (Shape.ofLane k)) _ _ _ k (List.mem_finRange k)]
    · rw [hw, ofLane_val, hk]
    · rw [pos_val (hq.lt _), hv, ofLane_val, ← hk, pos_self]
    · intro k' _ hk'
      have := key k' hk'
      exact Fin.ext (by omega)

/-! ## The results -/

/-- Row `n` of an array, as a vector. -/
def rowOf {α : Type} (x : S8192x16384.Idx → α) (n : Nat) : S16384.Idx → α := fun i => x (cell n (i 0).val)

/-- A row with its entries taken from the places the words `idx` name. -/
def taken {α : Type} (row : S16384.Idx → α) (idx : IVec S16384 32) : S16384.Idx → α :=
  fun i => row (pos (idx i).toNat)

/-- The array whose every row is that row of `x`, its entries taken from the places `idx` names. -/
def takenAll {α : Type} (x : S8192x16384.Idx → α) (idx : IVec S16384 32) : S8192x16384.Idx → α :=
  fun j => x (cell (j 0).val (idx (pos (j 1).val)).toNat)

/-- Row by row, the one is the other. -/
theorem rowOf_takenAll {α : Type} (x : S8192x16384.Idx → α) (q : IVec S16384 32) {n : Nat} (hn : n < 8192) :
    rowOf (takenAll x (invWord q)) n = taken (rowOf x n) (invWord q) := by
  funext i
  simp only [rowOf, takenAll, taken, cell_row _ hn, cell_col _ (idx_lt i), pos_self, pos_val (invWord_lt q _)]

end Cert.Permute
-- ==== Proof.Permute.Memory.lean ====
/- The kernel's memory as the proof speaks of it: the launch's set-up, the arrays and scratch buffers, a memref held by
   the values it reads, ranges of rows of the two large arrays, and the rules of the kernel's operations in those terms. -/
module

public import proofs.«01_k».proof.Proof.Permute.Values
public import proofs.«01_k».proof.Defs
public import Idealize.ShloMosaic.Lib.SparseCore.Quiescent
public import Idealize.ShloMosaic.Lib.SparseCore.Ops
public import Idealize.ShloMosaic.Lib.SparseCore.Scatter
public import Idealize.ShloMosaic.Lib.StableHlo.Run
public import Idealize.ShloMosaic.Lib.Pipeline.Kit
public import Idealize.ShloMosaic.Lib.Tactic

@[expose] public section

noncomputable section

namespace Cert.Permute

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The program's labels. -/
abbrev ΛP : Labels := Pipeline.Sig Λ₀ (Fin 0) fun p => (pcfgs (F := F) p).Adm
/-- The SparseCore configuration. -/
abbrev K : SparseCore.Cfg τ sig (ΛP (F := F)) 1 := sc (F := F)
/-- The program's definitions. -/
abbrev D [FloatOps F] : Defs nD τ sig (Elt F) (ΛP (F := F)) := Pipeline.defs pcfgs defs₀
/-- The kernel has no loop that needs a variant. -/
abbrev 𝒱₀ : Variants := Variants.none
/-- The program's variants: the kernel's, lifted. -/
abbrev 𝒱 : Variants := 𝒱₀.lift
/-- The one variant that the launch names. -/
abbrev v₀ : 𝒱.V := Sum.inl none

/-- The launch's semaphores are what the launch theorem takes them to be. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost state. -/
abbrev UH : Type := URounds (GSem nD τ sig) ℕ
/-- All ghost state: the handshakes' and the counters'. -/
abbrev UU : Type := UH × Counters

local notation "𝕄" => MT nD τ sig (HIx 1) (Elt F) ℕ UU ℕ

/-- Where the handshakes' ghost state lies. -/
abbrev EH : Emb UH (MT nD τ sig (HIx 1) (Elt F) ℕ UU ℕ) := embL

/-! ## The arrays and the scratch buffers -/

/-- Where the operand lies. -/
abbrev xLoc (d : Dev nD) : Loc nD τ sig := (SparseCore.T d).loc main_arg0
/-- Where the permutation lies. -/
abbrev pLoc (d : Dev nD) : Loc nD τ sig := (SparseCore.T d).loc main_arg1
/-- Where the permuted operand goes. -/
abbrev oLoc (d : Dev nD) : Loc nD τ sig := (SparseCore.T d).loc main_v0_0
/-- Where the inverse permutation goes. -/
abbrev wLoc (d : Dev nD) : Loc nD τ sig := (SparseCore.T d).loc main_v0_1

/-- The operand, the permutation, the permuted operand, the inverse permutation, as a tile names them. -/
abbrev xM : Memref sig .scVector .hbm S8192x16384 .f32 := Memref.whole main_arg0_scv
abbrev pM : Memref sig .scVector .hbm S16384 .f32 := Memref.whole main_arg1_scv
abbrev oM : Memref sig .scVector .hbm S8192x16384 .f32 := Memref.whole main_v0_0_scv
abbrev wM : Memref sig .scVector .hbm S16384 .i32 := Memref.whole main_v0_1_scv
/-- A tile's scratches: the inverse, two fetched rows, two permuted rows. -/
abbrev idxM : Memref sig .scVector .vmem S16384 .i32 := Memref.whole cc0_scratch0
abbrev inM0 : Memref sig .scVector .vmem S16384 .f32 := Memref.whole cc0_scratch1
abbrev inM1 : Memref sig .scVector .vmem S16384 .f32 := Memref.whole cc0_scratch2
abbrev outM0 : Memref sig .scVector .vmem S16384 .f32 := Memref.whole cc0_scratch3
abbrev outM1 : Memref sig .scVector .vmem S16384 .f32 := Memref.whole cc0_scratch4

/-- The tile of coordinates `i` on device `d`. -/
abbrev thr (d : Dev nD) (i : grid0.Coords) : Thread nD τ := V d ((i 0).castLE hcore0) ((i 1).castLE hsub0)

/-- The row of `M` that starts at `off`, as a vector. -/
abbrev rowMem (M : Memref sig .scVector .hbm S8192x16384 .f32) (off : Fin 2 → Nat)
    (inb : ∀ a, off a + S1x16384.size a ≤ S8192x16384.size a) : Memref sig .scVector .hbm S16384 .f32 :=
  (M.slice (Rect.unit (s := S8192x16384) off S1x16384.size inb) (fun _ => rfl)).squeeze S16384 squeezes_S1x16384_S16384

/-- A row's place `j` is column `j` of that row of the array. -/
theorem rowMem_emb (M : Memref sig .scVector .hbm S8192x16384 .f32) {off : Fin 2 → Nat}
    (inb : ∀ a, off a + S1x16384.size a ≤ S8192x16384.size a) {n : Nat} (hoff : off = ![n, 0]) (j : S16384.Idx) :
    (rowMem M off inb).view.emb j = M.view.emb (cell n (j 0).val) := by
  subst hoff
  have hn : n < 8192 := by have := inb 0; simpa using this
  show M.view.emb ((Rect.unit (s := S8192x16384) ![n, 0] S1x16384.size inb).emb
    (Shape.reshapeEquiv squeezes_S1x16384_S16384.numel_eq j)) = _
  congr 1
  have hy : Shape.reshapeEquiv (s := S1x16384) (s' := S16384) squeezes_S1x16384_S16384.numel_eq j
      = (fun a => match a with | 0 => ⟨0, by decide⟩ | 1 => ⟨(j 0).val, idx_lt j⟩ : S1x16384.Idx) := by
    apply Shape.reshapeEquiv_eq_of_rowMajor
    rw [Shape.rowMajor_val_two, Shape.rowMajor_val_one]
    simp
  rw [hy]
  refine cell_ext ?_ ?_
  · rw [cell_row _ hn, Rect.emb_apply]; simp
  · rw [cell_col _ (idx_lt j), Rect.emb_apply]; simp

/-- The places in rows `a` to `b` of the array. -/
def rows (a b : Nat) : Finset S8192x16384.Idx := Finset.univ.filter fun j => a ≤ (j 0).val ∧ (j 0).val < b

/-- A place is in rows `a` to `b` by its row number. -/
theorem mem_rows {a b : Nat} {j : S8192x16384.Idx} : j ∈ rows a b ↔ a ≤ (j 0).val ∧ (j 0).val < b := by
  simp [rows]

/-- No place lies in an empty range of rows. -/
theorem rows_empty (a : Nat) : rows a a = ∅ := by
  ext j; simp only [mem_rows, Finset.notMem_empty, iff_false]; omega

/-- Two ranges of rows that meet make one. -/
theorem rows_union {a b c : Nat} (h : a ≤ b) (h' : b ≤ c) : rows a c = rows a b ∪ rows b c := by
  ext j; simp only [mem_rows, Finset.mem_union]; omega

/-- Two ranges of rows, one after the other, share no place. -/
theorem rows_disjoint {a b c e : Nat} (h : b ≤ c) : Disjoint (rows a b) (rows c e) :=
  Finset.disjoint_left.2 fun j h1 h2 => by
    rw [mem_rows] at h1 h2; omega

/-- What a row's memref covers of a whole array. -/
theorem set_rowMem_x {off : Fin 2 → Nat} (inb : ∀ a, off a + S1x16384.size a ≤ S8192x16384.size a) {n : Nat}
    (hoff : off = ![n, 0]) : (rowMem xM off inb).view.set = rows n (n + 1) := by
  have hn : n < 8192 := by subst hoff; have := inb 0; simpa using this
  ext j
  unfold View.set
  simp only [Finset.mem_map, Finset.mem_univ, true_and]
  constructor
  · rintro ⟨y, rfl⟩
    rw [rowMem_emb xM inb hoff]
    exact mem_rows.2 (by show n ≤ (cell n _ 0).val ∧ (cell n _ 0).val < n + 1; rw [cell_row _ hn]; omega)
  · intro hj
    have hj' : n ≤ (j 0).val ∧ (j 0).val < n + 1 := mem_rows.1 hj
    refine ⟨pos (j 1).val, ?_⟩
    rw [rowMem_emb xM inb hoff, pos_val (col_lt j)]
    show cell n (j 1).val = j
    rw [show n = (j 0).val by omega]
    exact cell_self j

/-- The same of the output. -/
theorem set_rowMem_o {off : Fin 2 → Nat} (inb : ∀ a, off a + S1x16384.size a ≤ S8192x16384.size a) {n : Nat}
    (hoff : off = ![n, 0]) : (rowMem oM off inb).view.set = rows n (n + 1) := set_rowMem_x inb hoff

variable [FloatOps F]

/-! ## A memref held by what it reads -/

section Holds

variable (c : Fin τ.nSC) (s : Fin τ.nSub) (d : Dev nD)

/-- The memref's elements, at share `q`, reading `v`. -/
def holds {sp : Space} {sh : Shape} {e : EltTy} (M : Memref sig .scVector sp sh e) (q : PosShare TreeShare) (v : sh.Idx → Elt F e) : sProp 𝕄 :=
  iprop(∃ f, ⌜M.view.read (Elt F) f = v⌝ ∗ (M.view.loc (V d c s) ↦[M.view.set]{q} f))

end Holds

end Cert.Permute
-- ==== Proof.Permute.Rules.lean ====
/- The rules of the operations a tile performs — loads, stores, the gather and the scatter, copies and their waits —
   over memrefs held by the values they read. -/
module

public import proofs.«01_k».proof.Proof.Permute.Memory

@[expose] public section

noncomputable section

namespace Cert.Permute

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (c : Fin τ.nSC) (s : Fin τ.nSub) (d : Dev nD)

/-! ## The vector operations -/

/-- A load of a rectangle: its values are the memref's at the rectangle's places. -/
theorem wp_hload {α : Type} {Q : α → sProp 𝕄} {sh : Shape} {e : EltTy} {M : Memref sig .scVector .vmem sh e} {q : PosShare TreeShare} {v : sh.Idx → Elt F e}
    {r : LoadRect sh} {hl : M.view.LoadsAt r} {k : (r.shape.Idx → Elt F e) → Prog (TpuEff nD τ sig (Elt F) Λ₀ (.scVector c s)) α}
    (w : r.shape.Idx → Elt F e) (hw : ∀ x, v (r.idx x) = w x) :
    holds (F := F) c s d M q v
      ⊢ iprop((holds (F := F) c s d M q v -∗ wp frame (wpE (defs₀ (F := F)) 𝒱₀ (V d c s) none) Set.univ (k w) Q)
        -∗ wp frame (wpE (defs₀ (F := F)) 𝒱₀ (V d c s) none) Set.univ (.op (.load M r hl) k) Q) := by
  unfold holds
  iintro ⟨%f, %hf, H⟩ Hk
  iapply (wp_load 𝒱₀ (V d c s) none Set.univ (m := M) (S := M.view.set) (View.setOn_subset_set _ _)) $$ H
  iintro H
  have hv : M.view.readAt (Elt F) r f = w := by
    funext x; rw [View.readAt_apply, hf, hw]
  rw [hv]
  iapply Hk
  iexists f
  isplitr; · ipureintro; exact hf
  iexact H

/-- An indexed load of a whole memref. -/
theorem wp_hgather {α : Type} {Q : α → sProp 𝕄} {sh t : Shape} {e : EltTy} {M : Memref sig .scVector .vmem sh e} {q : PosShare TreeShare} {v : Vec F sh e}
    {idxs : Fin sh.rank → IVec t 32} {h : ∀ a x, (idxs a x).toNat < sh.size a} {hl : M.view.Loads}
    {k : Vec F t e → Prog (TpuEff nD τ sig (Elt F) Λ₀ (.scVector c s)) α} :
    holds (F := F) c s d M q v
      ⊢ iprop((holds (F := F) c s d M q v -∗ wp frame (wpE (defs₀ (F := F)) 𝒱₀ (V d c s) none) Set.univ (k (loadIdx v idxs h)) Q)
        -∗ wp frame (wpE (defs₀ (F := F)) 𝒱₀ (V d c s) none) Set.univ (SparseCore.vectorLoadIdx M idxs h hl >>= k) Q) := by
  unfold holds
  iintro ⟨%f, %hf, H⟩ Hk
  iapply (SparseCore.wp_vectorLoadIdx 𝒱₀ (V d c s) none Set.univ (base := M) (S := M.view.set) (q := q) (f := f)
    (View.set_slice_subset _ _)) $$ H
  iintro H
  have hv : (M.access (.whole sh)).read (Elt F) f = v := by
    funext x
    rw [← hf]
    show M.view.read (Elt F) f ((Rect.whole sh).emb x) = _
    rw [show (Rect.whole sh).emb x = x from by simp]
  rw [hv]
  iapply Hk
  iexists f
  isplitr; · ipureintro; exact hf
  iexact H

/-- An indexed store into a whole memref. -/
theorem wp_hscatter {α : Type} {Q : α → sProp 𝕄} {sh : Shape} {n : Fin 1 → Nat} {e : EltTy} {M : Memref sig .scVector .vmem sh e} {v : Vec F sh e}
    {idxs : Fin sh.rank → IVec ⟨1, n⟩ 32} {w : Vec F ⟨1, n⟩ e} {mask : IVec ⟨1, n⟩ 1} {add : Bool}
    {h : ∀ a x, (idxs a x).toNat < sh.size a} {hs : (M.access (.whole sh)).Stores Finset.univ}
    {k : PUnit → Prog (TpuEff nD τ sig (Elt F) Λ₀ (.scVector c s)) α} :
    holds (F := F) c s d M fullShare v
      ⊢ iprop((holds (F := F) c s d M fullShare (storeIdx v idxs w mask add h) -∗ wp frame (wpE (defs₀ (F := F)) 𝒱₀ (V d c s) none) Set.univ (k ⟨⟩) Q)
        -∗ wp frame (wpE (defs₀ (F := F)) 𝒱₀ (V d c s) none) Set.univ (SparseCore.vectorStoreIdx M idxs w mask add h hs >>= k) Q) := by
  unfold holds
  iintro ⟨%f, %hf, H⟩ Hk
  have hset : (M.access (.whole sh)).set = M.view.set := by
    refine (View.set_slice M.view (.whole sh)).trans ?_
    rw [Rect.set_whole]; rfl
  ihave H' := (Entails.of_eq (congrArg (fun I => (M.view.loc (V d c s) ↦[I]{fullShare} f : sProp 𝕄)) hset.symm)) $$ H
  iapply (SparseCore.wp_vectorStoreIdx 𝒱₀ (V d c s) none Set.univ (base := M) (f := f)) $$ H'
  iintro H
  have hv : (M.access (.whole sh)).read (Elt F) f = v := by
    funext x
    rw [← hf]
    show M.view.read (Elt F) f ((Rect.whole sh).emb x) = _
    rw [show (Rect.whole sh).emb x = x from by simp]
  rw [hv]
  iapply Hk
  iexists ((M.access (.whole sh)).write (Elt F) f (storeIdx v idxs w mask add h) Finset.univ)
  isplitr
  · ipureintro
    funext x
    have := View.read_slice_write_emb (v := M.view) (Val := Elt F) (Rect.whole sh) f (storeIdx v idxs w mask add h) (M := Finset.univ) (Finset.mem_univ x)
    rw [show (Rect.whole sh).emb x = x from by simp] at this
    exact this
  iapply (Entails.of_eq (congrArg (fun I => (M.view.loc (V d c s) ↦[I]{fullShare} _ : sProp 𝕄)) hset)) $$ H

/-- A store of a rectangle: the memref reads what was stored at the rectangle's places and its old values elsewhere. -/
theorem wp_hstore {α : Type} {Q : α → sProp 𝕄} {sh : Shape} {e : EltTy} {M : Memref sig .scVector .vmem sh e} {v v' : sh.Idx → Elt F e}
    {r : Rect sh} {w : r.shape.Idx → Elt F e} {hx : (M.access r).Stores Finset.univ} {hm : Finset.univ = Finset.univ ∨ ∀ a : Fin sh.rank, r.stride a = 1}
    {k : PUnit → Prog (TpuEff nD τ sig (Elt F) Λ₀ (.scVector c s)) α}
    (hin : ∀ x, v' (r.emb x) = w x) (hout : ∀ y, y ∉ r.set → v' y = v y) :
    holds (F := F) c s d M fullShare v
      ⊢ iprop((holds (F := F) c s d M fullShare v' -∗ wp frame (wpE (defs₀ (F := F)) 𝒱₀ (V d c s) none) Set.univ (k ⟨⟩) Q)
        -∗ wp frame (wpE (defs₀ (F := F)) 𝒱₀ (V d c s) none) Set.univ (.op (.store M r w Finset.univ hx hm) k) Q) := by
  unfold holds
  iintro ⟨%f, %hf, H⟩ Hk
  iapply (wp_store 𝒱₀ (V d c s) none Set.univ (m := M) (r := r) (Mk := Finset.univ) (S := M.view.set) (f := f)
    (by rw [View.setOn_univ]; exact View.set_slice_subset _ _)) $$ H
  iintro H
  iapply Hk
  iexists ((M.access r).write (Elt F) f w Finset.univ)
  isplitr
  · ipureintro
    funext y
    by_cases hy : y ∈ r.set
    · rw [← Rect.map_emb_univ] at hy
      obtain ⟨x, -, rfl⟩ := Finset.mem_map.1 hy
      rw [hin]
      exact View.read_slice_write_emb (v := M.view) (Val := Elt F) r f w (Finset.mem_univ x)
    · rw [hout y hy, ← hf]
      rw [← Rect.map_emb_univ] at hy
      exact View.read_slice_write_of_not_mem (v := M.view) (Val := Elt F) r f w Finset.univ hy
  iexact H

/-! ## Copies and waits -/

/-- A tile's debt: what it owed at the start, with the leave to wait under it, whatever waits it has recorded since. -/
def debt (O : CellTallies nD τ sig (HIx 1)) (W : Waits sig (HIx 1)) : sProp 𝕄 :=
  iprop(Transfers.MayWaits (V d c s) (none : HIx 1) O ∗ ∃ W', ⌜∀ p ∈ W', p ∈ W ∨ p.2 = none⌝ ∗ owes (V d c s) O W')

/-- A copy under way on cell `sem`, of `N` units, that hands over `P` when waited for. -/
abbrev underway (sem : DmaSem sig) (N : ℕ) (P : sProp 𝕄) : sProp 𝕄 :=
  Transfers.Flight countersEmb (V d c s) (.dma sem) (none : HIx 1) N P

/-- Starting a copy of one memref into another of its shape. -/
theorem wp_hcopy {α : Type} {Q : α → sProp 𝕄} {sp sp' : Space} {sh : Shape} {e : EltTy} {A : Memref sig .scVector sp sh e} {B : Memref sig .scVector sp' sh e}
    {sem : DmaSem sig} {hsrc : A.view.WordExact} {hdst : B.view.WordExact} {ht : DmaTarget.Typed (nD := nD) (p := .scVector c s) sp (.dma sem) (.here B)}
    {k : PUnit → Prog (TpuEff nD τ sig (Elt F) Λ₀ (.scVector c s)) α} {q : PosShare TreeShare} {v u : sh.Idx → Elt F e}
    (hpos : 0 < sh.numel) :
    iprop(holds (F := F) c s d A q v ∗ holds (F := F) c s d B fullShare u ∗ semVal (V d c s, .dma sem) 0)
      ⊢ iprop((underway (F := F) c s d sem B.view.dmaCredit iprop(holds (F := F) c s d B fullShare v ∗ holds (F := F) c s d A q v)
            -∗ wp frame (wpE (defs₀ (F := F)) 𝒱₀ (V d c s) none) Set.univ (k ⟨⟩) Q)
        -∗ wp frame (wpE (defs₀ (F := F)) 𝒱₀ (V d c s) none) Set.univ (.op (.enqueueDma A (.here B) (.dma sem) hsrc hdst ht) k) Q) := by
  unfold holds
  iintro ⟨⟨%f, %hf, HA⟩, ⟨%g, %hg, HB⟩, Hv⟩ Hk
  iapply (Transfers.wp_dmaLocal countersEmb 𝒱₀ (V d c s) none (src := A) (dst := B) (sm := .dma sem) (q := q) (fs := f) (fd := g)
    (Sd := B.view.set) (none : HIx 1) B.view.dmaCredit rfl (View.dmaCredit_pos _ hpos) subset_rfl) $$ [HA HB Hv]
  · isplitl [HA]; · iexact HA
    isplitl [HB]; · iexact HB
    iexact Hv
  iintro HF
  iapply Hk
  iapply (Transfers.Flight_mono countersEmb (V d c s) ?_) $$ HF
  iintro ⟨HB, HA⟩
  isplitl [HB]
  · iexists (B.view.write (Elt F) g (A.view.read (Elt F) f) Finset.univ)
    isplitr
    · ipureintro; rw [View.read_write_univ, hf]
    · iexact HB
  · iexists f
    isplitr; · ipureintro; exact hf
    iexact HA

/-- Waiting for a copy. -/
theorem wp_hwait {α : Type} {Q : α → sProp 𝕄} {sp sp' : Space} {sh sh' : Shape} {e e' : EltTy} {A : Memref sig .scVector sp sh e} {B : Memref sig .scVector sp' sh' e'}
    {sem : DmaSem sig} {hsrc : A.view.WordExact} {hdst : B.view.WordExact}
    {k : PUnit → Prog (TpuEff nD τ sig (Elt F) Λ₀ (.scVector c s)) α} {N : ℕ} {P : sProp 𝕄}
    {O : CellTallies nD τ sig (HIx 1)} {W : Waits sig (HIx 1)} (hN : B.view.dmaCredit = N) :
    iprop(underway (F := F) c s d sem N P ∗ debt (F := F) c s d O W)
      ⊢ iprop((iprop(P ∗ semVal (V d c s, .dma sem) 0 ∗ debt (F := F) c s d O W)
            -∗ wp frame (wpE (defs₀ (F := F)) 𝒱₀ (V d c s) none) Set.univ (k ⟨⟩) Q)
        -∗ wp frame (wpE (defs₀ (F := F)) 𝒱₀ (V d c s) none) Set.univ (.op (.waitDma2 sem A B hsrc hdst) k) Q) := by
  unfold debt
  iintro ⟨HF, #Hmw, ⟨%W', %hW', HO⟩⟩ Hk
  iapply (Transfers.wp_waitLocalO countersEmb 𝒱₀ (V d c s) none (none : HIx 1) hN (O := O) (W := W')) $$ [HF HO]
  · isplitl [HF]; · iexact HF
    isplitl [HO]; · iexact HO
    iapply (Transfers.MayWaits.elim (.dma sem)) $$ Hmw
  iintro ⟨HP, Hv, HO⟩
  iapply Hk
  isplitl [HP]; · iexact HP
  isplitl [Hv]; · iexact Hv
  isplitr; · iexact Hmw
  iexists (insert (SemLoc.dma sem, (none : HIx 1)) W')
  isplitr
  · ipureintro; intro p hp
    rcases Finset.mem_insert.1 hp with rfl | hp
    · exact .inr rfl
    · exact hW' p hp
  · iexact HO

/-! ## A row of a large array, and its copies -/

/-- What a row's memref reads of a whole array. -/
theorem read_rowMem_x {off : Fin 2 → Nat} (inb : ∀ a, off a + S1x16384.size a ≤ S8192x16384.size a) {n : Nat} (hoff : off = ![n, 0])
    (x : Vec F S8192x16384 .f32) : (rowMem xM off inb).view.read (Elt F) x = rowOf x n := by
  funext j
  rw [View.read_apply, rowMem_emb xM inb hoff]
  rfl

/-- The same of the output. -/
theorem read_rowMem_o {off : Fin 2 → Nat} (inb : ∀ a, off a + S1x16384.size a ≤ S8192x16384.size a) {n : Nat} (hoff : off = ![n, 0])
    (x : Vec F S8192x16384 .f32) : (rowMem oM off inb).view.read (Elt F) x = rowOf x n := by
  funext j
  rw [View.read_apply, rowMem_emb oM inb hoff]
  rfl

/-- Two arrays that a row's memref reads alike agree on the row. -/
theorem row_agree {off : Fin 2 → Nat} (inb : ∀ a, off a + S1x16384.size a ≤ S8192x16384.size a) {n : Nat} (hoff : off = ![n, 0])
    {x y : Vec F S8192x16384 .f32} (h : rowOf x n = rowOf y n) : ∀ j ∈ rows n (n + 1), x j = y j := by
  intro j hj
  have hj' := mem_rows.1 hj
  have := congrFun h (pos (j 1).val)
  unfold rowOf at this
  rwa [pos_val (col_lt j), show n = (j 0).val by omega, cell_self] at this

/-- A row of the operand, held at a share, as its memref holds it. -/
theorem row_x {off : Fin 2 → Nat} (inb : ∀ a, off a + S1x16384.size a ≤ S8192x16384.size a) {n : Nat} (hoff : off = ![n, 0])
    (q : PosShare TreeShare) (x : Vec F S8192x16384 .f32) :
    (xLoc d ↦[rows n (n + 1)]{q} x : sProp 𝕄) ⊣⊢ holds (F := F) c s d (rowMem xM off inb) q (rowOf x n) := by
  constructor
  · unfold holds
    iintro H
    iexists x
    isplitr; · ipureintro; exact read_rowMem_x inb hoff x
    iapply (Entails.of_eq (congrArg (fun I => (xLoc d ↦[I]{q} x : sProp 𝕄)) (set_rowMem_x inb hoff).symm)) $$ H
  · unfold holds
    iintro ⟨%f, %hf, H⟩
    ihave H' := (Entails.of_eq (congrArg (fun I => (xLoc d ↦[I]{q} f : sProp 𝕄)) (set_rowMem_x inb hoff))) $$ H
    iapply (Entails.of_eq (pointsTo_congr (row_agree inb hoff ((read_rowMem_x inb hoff f).symm.trans hf)))) $$ H'

/-- A row of the permuted operand. -/
theorem row_o {off : Fin 2 → Nat} (inb : ∀ a, off a + S1x16384.size a ≤ S8192x16384.size a) {n : Nat} (hoff : off = ![n, 0])
    (q : PosShare TreeShare) (x : Vec F S8192x16384 .f32) :
    (oLoc d ↦[rows n (n + 1)]{q} x : sProp 𝕄) ⊣⊢ holds (F := F) c s d (rowMem oM off inb) q (rowOf x n) := by
  constructor
  · unfold holds
    iintro H
    iexists x
    isplitr; · ipureintro; exact read_rowMem_o inb hoff x
    iapply (Entails.of_eq (congrArg (fun I => (oLoc d ↦[I]{q} x : sProp 𝕄)) (set_rowMem_o inb hoff).symm)) $$ H
  · unfold holds
    iintro ⟨%f, %hf, H⟩
    ihave H' := (Entails.of_eq (congrArg (fun I => (oLoc d ↦[I]{q} f : sProp 𝕄)) (set_rowMem_o inb hoff))) $$ H
    iapply (Entails.of_eq (pointsTo_congr (row_agree inb hoff ((read_rowMem_o inb hoff f).symm.trans hf)))) $$ H'

/-- A memref at some contents. -/
def spare {sp : Space} {sh : Shape} {e : EltTy} (M : Memref sig .scVector sp sh e) : sProp 𝕄 :=
  iprop(∃ v, holds (F := F) c s d M fullShare v)

/-- Fetching row `n` of the operand: the buffer comes back reading the row, with the operand's share. -/
theorem wp_fetch {α : Type} {Q : α → sProp 𝕄} {B : Memref sig .scVector .vmem S16384 .f32} {off : Fin 2 → Nat}
    {inb : ∀ a, off a + S1x16384.size a ≤ S8192x16384.size a} {n : Nat} (hoff : off = ![n, 0])
    {sem : DmaSem sig} {hsrc : (rowMem xM off inb).view.WordExact} {hdst : B.view.WordExact}
    {ht : DmaTarget.Typed (nD := nD) (p := .scVector c s) .hbm (.dma sem) (.here B)}
    {k : PUnit → Prog (TpuEff nD τ sig (Elt F) Λ₀ (.scVector c s)) α} {q : PosShare TreeShare} {x : Vec F S8192x16384 .f32} :
    iprop((xLoc d ↦[Finset.univ]{q} x) ∗ spare (F := F) c s d B ∗ semVal (V d c s, .dma sem) 0)
      ⊢ iprop((underway (F := F) c s d sem B.view.dmaCredit
              iprop(holds (F := F) c s d B fullShare (rowOf x n) ∗ (xLoc d ↦[Finset.univ]{q} x))
            -∗ wp frame (wpE (defs₀ (F := F)) 𝒱₀ (V d c s) none) Set.univ (k ⟨⟩) Q)
        -∗ wp frame (wpE (defs₀ (F := F)) 𝒱₀ (V d c s) none) Set.univ
          (.op (.enqueueDma (rowMem xM off inb) (.here B) (.dma sem) hsrc hdst ht) k) Q) := by
  unfold spare
  iintro ⟨Hx, ⟨%u, HB⟩, Hv⟩ Hk
  ihave Hx' := (pointsTo_split_subset (Finset.subset_univ (rows n (n + 1)))).1 $$ Hx
  icases Hx' with ⟨Hr, Hrest⟩
  ihave Hr' := (row_x c s d inb hoff q x).1 $$ Hr
  iapply (wp_hcopy c s d (by decide)) $$ [Hr' HB Hv]
  · isplitl [Hr']; · iexact Hr'
    isplitl [HB]; · iexact HB
    iexact Hv
  iintro HF
  iapply Hk
  ihave HF' := (Transfers.Flight_frame countersEmb (V d c s)) $$ [Hrest HF]
  · isplitl [Hrest]; · iexact Hrest
    iexact HF
  iapply (Transfers.Flight_mono countersEmb (V d c s) ?_) $$ HF'
  iintro ⟨Hrest, HB, Hr⟩
  isplitl [HB]; · iexact HB
  ihave Hr' := (row_x c s d inb hoff q x).2 $$ Hr
  iapply (pointsTo_split_subset (Finset.subset_univ (rows n (n + 1)))).2
  isplitl [Hr']; · iexact Hr'
  iexact Hrest

/-- Flushing a permuted row to row `n` of the output: the row comes back at its final values, with the buffer. -/
theorem wp_flush {α : Type} {Q : α → sProp 𝕄} {B : Memref sig .scVector .vmem S16384 .f32} {off : Fin 2 → Nat}
    {inb : ∀ a, off a + S1x16384.size a ≤ S8192x16384.size a} {n b : Nat} (hoff : off = ![n, 0]) (hnb : n < b)
    {sem : DmaSem sig} {hsrc : B.view.WordExact} {hdst : (rowMem oM off inb).view.WordExact}
    {ht : DmaTarget.Typed (nD := nD) (p := .scVector c s) .vmem (.dma sem) (.here (rowMem oM off inb))}
    {k : PUnit → Prog (TpuEff nD τ sig (Elt F) Λ₀ (.scVector c s)) α} {f G : Vec F S8192x16384 .f32} :
    iprop((oLoc d ↦[rows n b]{fullShare} f) ∗ holds (F := F) c s d B fullShare (rowOf G n) ∗ semVal (V d c s, .dma sem) 0)
      ⊢ iprop((iprop(underway (F := F) c s d sem (rowMem oM off inb).view.dmaCredit
                iprop((oLoc d ↦[rows n (n + 1)]{fullShare} G) ∗ spare (F := F) c s d B)
              ∗ (oLoc d ↦[rows (n + 1) b]{fullShare} f))
            -∗ wp frame (wpE (defs₀ (F := F)) 𝒱₀ (V d c s) none) Set.univ (k ⟨⟩) Q)
        -∗ wp frame (wpE (defs₀ (F := F)) 𝒱₀ (V d c s) none) Set.univ
          (.op (.enqueueDma B (.here (rowMem oM off inb)) (.dma sem) hsrc hdst ht) k) Q) := by
  iintro ⟨Ho, HB, Hv⟩ Hk
  ihave Ho' := (Entails.of_eq (congrArg (fun I => (oLoc d ↦[I]{fullShare} f : sProp 𝕄)) (rows_union (Nat.le_succ n) hnb))) $$ Ho
  ihave Ho'' := (pointsTo_union (rows_disjoint (le_refl (n + 1)))).1 $$ Ho'
  icases Ho'' with ⟨Hr, Hrest⟩
  ihave Hr' := (row_o c s d inb hoff fullShare f).1 $$ Hr
  iapply (wp_hcopy c s d (by decide)) $$ [Hr' HB Hv]
  · isplitl [HB]; · iexact HB
    isplitl [Hr']; · iexact Hr'
    iexact Hv
  iintro HF
  iapply Hk
  isplitl [HF]
  · iapply (Transfers.Flight_mono countersEmb (V d c s) ?_) $$ HF
    iintro ⟨Hr, HB⟩
    isplitl [Hr]
    · iapply (row_o c s d inb hoff fullShare G).2 $$ Hr
    · unfold spare
      iexists _
      iexact HB
  · iexact Hrest

/-- Rows next to each other, at the same values. -/
theorem rows_join {a b e : Nat} (h : a ≤ b) (h' : b ≤ e) (q : PosShare TreeShare) (x : Vec F S8192x16384 .f32) :
    iprop((oLoc d ↦[rows a b]{q} x) ∗ (oLoc d ↦[rows b e]{q} x)) ⊢ (oLoc d ↦[rows a e]{q} x : sProp 𝕄) := by
  rw [rows_union h h']
  exact (pointsTo_union (rows_disjoint (le_refl b))).2

end Cert.Permute
-- ==== Proof.Permute.Loops.lean ====
/- A tile's inner loops: the one that enters the places of the permutation into its inverse, and the two that take a
   fetched row's entries in the inverse's order, sixteen places a trip. -/
module

public import proofs.«01_k».proof.Proof.Permute.Rules

@[expose] public section

noncomputable section

namespace Cert.Permute

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## Sixteen places of a vector -/

/-- The inverting loop runs 1024 times. -/
theorem trips_t1 : k0_t1_loop.trips = 1024 := by decide
/-- The loop over pairs of rows runs 128 times. -/
theorem trips_t2 : k0_t2_loop.trips = 128 := by decide
/-- The loop that permutes the first row of a pair runs 1024 times. -/
theorem trips_t3 : k0_t3_loop.trips = 1024 := by decide
/-- The loop that permutes the second row of a pair runs 1024 times. -/
theorem trips_t4 : k0_t4_loop.trips = 1024 := by decide

/-- Lane `x` of the sixteen places from `a` on. -/
theorem unit_emb {off : Fin 1 → Nat} (inb : ∀ a, off a + S16.size a ≤ S16384.size a) {a : Nat} (hoff : off = ![a]) (x : S16.Idx) :
    (Rect.unit (s := S16384) off S16.size inb).emb x = pos (a + (x 0).val) := by
  subst hoff
  have hx : (x 0).val < 16 := (x 0).isLt
  have ha : a + 16 ≤ 16384 := inb 0
  refine idx_ext ?_
  rw [pos_val (by omega), Rect.emb_apply]
  show a + 1 * (x 0).val = _
  omega

/-- A load of sixteen places from `a` on reads place `a + x` in lane `x`. -/
theorem unit_idx {off : Fin 1 → Nat} (inb : ∀ a, off a + S16.size a ≤ S16384.size a) {a : Nat} (hoff : off = ![a]) (x : S16.Idx) :
    (Rect.unit (s := S16384) off S16.size inb).toLoadRect.idx x = pos (a + (x 0).val) := by
  refine Eq.trans (idx_ext ?_) (unit_emb inb hoff x)
  rw [LoadRect.idx_apply, Rect.emb_apply]

/-- A place outside the sixteen from `a` on is before them or after. -/
theorem unit_not_mem {off : Fin 1 → Nat} (inb : ∀ a, off a + S16.size a ≤ S16384.size a) {a : Nat} (hoff : off = ![a])
    {y : S16384.Idx} (h : y ∉ (Rect.unit (s := S16384) off S16.size inb).set) : (y 0).val < a ∨ a + 16 ≤ (y 0).val := by
  subst hoff
  by_contra hc
  refine h (Rect.mem_set_unit.2 fun b => ?_)
  have hb : b = 0 := Subsingleton.elim _ _
  subst hb
  show a ≤ (y 0).val ∧ (y 0).val < a + 16
  omega

/-! ## The inverse -/

variable (i : grid0.Coords) (d : Dev nD)

/-- The tile's memref `M`, held reading `v`. -/
abbrev has {sp : Space} {sh : Shape} {e : EltTy} (M : Memref sig .scVector sp sh e) (v : sh.Idx → Elt F e) : sProp 𝕄 :=
  holds (F := F) ((i 0).castLE hcore0) ((i 1).castLE hsub0) d M fullShare v

/-- What the inverting loop keeps: the fetched permutation, and the places before `16 n` entered into the inverse. -/
def scatterInv (p : Vec F S16384 .f32) (n : Nat) : sProp 𝕄 :=
  iprop(has (F := F) i d inM0 p ∗ ∃ f : IVec S16384 32,
    ⌜∀ j : S16384.Idx, (j 0).val < 16 * n → f (pos ((fptosi 32 p : IVec S16384 32) j).toNat) = BitVec.ofNat 32 (j 0).val⌝
      ∗ has (F := F) i d idxM f)

/-- One trip of the inverting loop enters sixteen more places into the inverse. -/
theorem scatter_trip {p : Vec F S16384 .f32} (hq : IsPerm (fptosi 32 p)) (v30_r0 v30_r1 : DmaSems sig S_) (t : Fin k0_t1_loop.trips) (acc : BitVec 32) :
    scatterInv (F := F) i d p t.val
      ⊢ wp frame (wpE (defs₀ (F := F)) 𝒱₀ (thr d i) none) Set.univ
          (k0_t1_body (F := F) i xM (Memref.isWhole_whole _) pM (Memref.isWhole_whole _) oM (Memref.isWhole_whole _) wM (Memref.isWhole_whole _)
            idxM (Memref.isWhole_whole _) inM0 (Memref.isWhole_whole _) inM1 (Memref.isWhole_whole _) outM0 (Memref.isWhole_whole _)
            outM1 (Memref.isWhole_whole _) cc0_scratch5 cc0_scratch6 cc0_scratch7 cc0_scratch8 v30_r0 v30_r1 t acc)
          (fun _ => scatterInv (F := F) i d p (t.val + 1)) := by
  have ht : t.val < 1024 := trips_t1 ▸ t.isLt
  unfold scatterInv
  iintro ⟨Hp, %f, %hf, Hf⟩
  unfold k0_t1_body
  simp only [Prog.lift, Prog.bind_op, Prog.bind_ret, Prog.pure_eq_ret]
  iapply (wp_hload _ _ d (fun x : S16.Idx => p (pos (16 * t.val + (x 0).val)))
    (fun x => congrArg p (unit_idx (k0_off1_inb t) (k0_off1_eq t) x))) $$ Hp
  iintro Hp
  have hchk : k0_chk1 (fptosi 32 (fun x : S16.Idx => p (pos (16 * t.val + (x 0).val)) : Vec F S16 .f32)) := by
    intro a x
    have ha : a = 0 := Subsingleton.elim _ _
    subst ha
    exact hq.lt (pos (16 * t.val + (x 0).val))
  rw [wp_assume_of _ _ _ _ hchk]
  iapply (wp_hscatter _ _ d) $$ Hf
  iintro Hf
  rw [wp_ret]
  imodintro
  isplitl [Hp]; · iexact Hp
  iexists _
  isplitr
  · ipureintro
    exact scatter_step (F := F) hq ht (fun x => rfl) (pay_apply t) (k0_idx1_inb _ hchk) hf
  · iexact Hf

/-- The inverting loop, from the fetched permutation: the inverse scratch ends reading the inverse. -/
theorem scatter_loop {p : Vec F S16384 .f32} (hq : IsPerm (fptosi 32 p)) (v30_r0 v30_r1 : DmaSems sig S_) {β : Type}
    {kk : BitVec 32 → Prog (TpuEff nD τ sig (Elt F) Λ₀ (.scVector ((i 0).castLE hcore0) ((i 1).castLE hsub0))) β} {Q : β → sProp 𝕄} :
    iprop(has (F := F) i d inM0 p ∗ spare (F := F) ((i 0).castLE hcore0) ((i 1).castLE hsub0) d idxM)
      ⊢ iprop((∀ acc, iprop(has (F := F) i d inM0 p ∗ has (F := F) i d idxM (invWord (fptosi 32 p)))
            -∗ wp frame (wpE (defs₀ (F := F)) 𝒱₀ (thr d i) none) Set.univ (kk acc) Q)
          -∗ wp frame (wpE (defs₀ (F := F)) 𝒱₀ (thr d i) none) Set.univ
            (Scf.Loop.for k0_t1_loop k0_t1_ok 0#32 (k0_t1_body (F := F) i xM (Memref.isWhole_whole _) pM (Memref.isWhole_whole _) oM (Memref.isWhole_whole _)
              wM (Memref.isWhole_whole _) idxM (Memref.isWhole_whole _) inM0 (Memref.isWhole_whole _) inM1 (Memref.isWhole_whole _)
              outM0 (Memref.isWhole_whole _) outM1 (Memref.isWhole_whole _) cc0_scratch5 cc0_scratch6 cc0_scratch7 cc0_scratch8 v30_r0 v30_r1)
              >>= kk) Q) := by
  unfold spare
  iintro ⟨Hp, %f, Hf⟩ Hk
  iapply (Scf.wp_for_bind frame _ _ _ _ _ k0_t1_ok _ _ (fun n _ => scatterInv (F := F) i d p n)
    (scatter_trip i d hq v30_r0 v30_r1)) $$ [Hp Hf]
  · unfold scatterInv
    isplitl [Hp]; · iexact Hp
    iexists f
    isplitr
    · ipureintro; intro j hj; omega
    · iexact Hf
  iintro %acc HI
  iapply Hk
  unfold scatterInv
  icases HI with ⟨Hp, %f, %hf, Hf⟩
  isplitl [Hp]; · iexact Hp
  have hfe : f = invWord (fptosi 32 p) := by
    refine eq_invWord hq fun j => hf j ?_
    have : k0_t1_loop.trips = 1024 := trips_t1
    have := idx_lt j
    show (j 0).val < 16 * k0_t1_loop.trips
    omega
  rw [hfe]
  iexact Hf

/-! ## Taking a row's entries -/

/-- What a taking loop keeps: the inverse, the fetched row, and the first `16 n` entries of the permuted row. -/
def takeInv (inB outB : Memref sig .scVector .vmem S16384 .f32) (idx : IVec S16384 32) (row : Vec F S16384 .f32) (n : Nat) : sProp 𝕄 :=
  iprop(has (F := F) i d idxM idx ∗ has (F := F) i d inB row
    ∗ ∃ f : Vec F S16384 .f32, ⌜∀ j : S16384.Idx, (j 0).val < 16 * n → f j = taken row idx j⌝ ∗ has (F := F) i d outB f)

/-- A trip of a taking loop, over any two row buffers. -/
theorem take_trip {inB outB : Memref sig .scVector .vmem S16384 .f32} {idx : IVec S16384 32} (hidx : ∀ j, (idx j).toNat < 16384)
    {row : Vec F S16384 .f32} {n : Nat} {off off' : Fin 1 → Nat} {inb : ∀ a, off a + S16.size a ≤ S16384.size a}
    {inb' : ∀ a, off' a + S16.size a ≤ S16384.size a} (hoff : off = ![16 * n]) (hoff' : off' = ![16 * n])
    {chk : IVec S16 32 → Prop} {dec : ∀ v, Decidable (chk v)}
    {hin : ∀ v, chk v → ∀ a x, ((![v] : Fin 1 → IVec S16 32) a x).toNat < S16384.size a}
    (hchk : ∀ v, (∀ a x, ((![v] : Fin 1 → IVec S16 32) a x).toNat < S16384.size a) → chk v)
    {hl : (idxM : Memref sig .scVector .vmem S16384 .i32).view.LoadsAt (Rect.unit (s := S16384) off S16.size inb).toLoadRect}
    {hl' : inB.view.Loads} {hl'' : outB.view.LoadsAt (Rect.unit (s := S16384) off' S16.size inb').toLoadRect}
    {hs : (outB.access (Rect.unit (s := S16384) off' S16.size inb')).Stores Finset.univ} {hm} :
    takeInv (F := F) i d inB outB idx row n
      ⊢ wp frame (wpE (defs₀ (F := F)) 𝒱₀ (thr d i) none) Set.univ
          (.op (.load idxM (Rect.unit (s := S16384) off S16.size inb).toLoadRect hl) fun (v : Vec F S16 .i32) =>
            .op (.assume (chk v) (dec v)) fun h =>
              SparseCore.vectorLoadIdx inB ![v] (hin v h.down) hl' >>= fun (w : Vec F S16 .f32) =>
                .op (.load outB (Rect.unit (s := S16384) off' S16.size inb').toLoadRect hl'') fun _ =>
                  .op (.store outB (Rect.unit (s := S16384) off' S16.size inb') w Finset.univ hs hm) fun _ => .ret ())
          (fun _ => takeInv (F := F) i d inB outB idx row (n + 1)) := by
  have hn : 16 * n + 16 ≤ 16384 := by subst hoff; exact inb 0
  unfold takeInv
  iintro ⟨Hi, Hr, %f, %hf, Ho⟩
  iapply (wp_hload _ _ d (fun x : S16.Idx => idx (pos (16 * n + (x 0).val))) (fun x => congrArg idx (unit_idx inb hoff x))) $$ Hi
  iintro Hi
  have hlt : ∀ a (x : S16.Idx), ((![fun x : S16.Idx => idx (pos (16 * n + (x 0).val))] : Fin 1 → IVec S16 32) a x).toNat < S16384.size a := by
    intro a x
    have ha : a = 0 := Subsingleton.elim _ _
    subst ha
    exact hidx (pos (16 * n + (x 0).val))
  rw [wp_assume_of _ _ _ _ (hchk _ hlt)]
  iapply (wp_hgather _ _ d) $$ Hr
  iintro Hr
  iapply (wp_hload _ _ d _ (fun x => rfl)) $$ Ho
  iintro Ho
  iapply (wp_hstore _ _ d (v' := fun j => if 16 * n ≤ (j 0).val ∧ (j 0).val < 16 * n + 16 then taken row idx j else f j) ?_ ?_) $$ Ho
  · intro x
    have hx : (x 0).val < 16 := (x 0).isLt
    rw [unit_emb inb' hoff' x, if_pos (by rw [pos_val (by omega)]; omega)]
    show row _ = row _
    congr 1
    refine idx_ext ?_
    rw [pos_val (hidx _)]
    rfl
  · intro y hy
    have := unit_not_mem inb' hoff' hy
    exact if_neg (by omega)
  iintro Ho
  rw [wp_ret]
  imodintro
  isplitl [Hi]; · iexact Hi
  isplitl [Hr]; · iexact Hr
  iexists _
  isplitr
  swap; · iexact Ho
  ipureintro
  intro j hj
  by_cases h : 16 * n ≤ (j 0).val ∧ (j 0).val < 16 * n + 16
  · exact if_pos h
  · exact (if_neg h).trans (hf j (by omega))

/-- After all its trips the permuted row is whole. -/
theorem takeInv_end {inB outB : Memref sig .scVector .vmem S16384 .f32} {idx : IVec S16384 32} {row : Vec F S16384 .f32} :
    takeInv (F := F) i d inB outB idx row 1024
      ⊢ iprop(has (F := F) i d idxM idx ∗ has (F := F) i d inB row ∗ has (F := F) i d outB (taken row idx)) := by
  unfold takeInv
  iintro ⟨Hi, Hr, %f, %hf, Ho⟩
  have hfe : f = taken row idx := funext fun j => hf j (by have := idx_lt j; omega)
  rw [hfe]
  isplitl [Hi]; · iexact Hi
  isplitl [Hr]; · iexact Hr
  iexact Ho

/-- Before the first trip no place of the permuted row is written. -/
theorem takeInv_start {inB outB : Memref sig .scVector .vmem S16384 .f32} {idx : IVec S16384 32} {row : Vec F S16384 .f32} :
    iprop(has (F := F) i d idxM idx ∗ has (F := F) i d inB row ∗ spare (F := F) ((i 0).castLE hcore0) ((i 1).castLE hsub0) d outB)
      ⊢ takeInv (F := F) i d inB outB idx row 0 := by
  unfold takeInv spare
  iintro ⟨Hi, Hr, %f, Ho⟩
  isplitl [Hi]; · iexact Hi
  isplitl [Hr]; · iexact Hr
  iexists f
  isplitr
  · ipureintro; intro j hj; omega
  · iexact Ho

variable (v30_r0 v30_r1 : DmaSems sig S_) (v7 a b : BitVec 32) (g : Fin k0_t2_loop.trips)

/-- The loop that takes the first buffer's row. -/
theorem take_loop0 {idx : IVec S16384 32} (hidx : ∀ j, (idx j).toNat < 16384) {row : Vec F S16384 .f32} {β : Type}
    {kk : Unit → Prog (TpuEff nD τ sig (Elt F) Λ₀ (.scVector ((i 0).castLE hcore0) ((i 1).castLE hsub0))) β} {Q : β → sProp 𝕄} :
    iprop(has (F := F) i d idxM idx ∗ has (F := F) i d inM0 row ∗ spare (F := F) ((i 0).castLE hcore0) ((i 1).castLE hsub0) d outM0)
      ⊢ iprop((iprop(has (F := F) i d idxM idx ∗ has (F := F) i d inM0 row ∗ has (F := F) i d outM0 (taken row idx))
            -∗ wp frame (wpE (defs₀ (F := F)) 𝒱₀ (thr d i) none) Set.univ (kk ⟨⟩) Q)
          -∗ wp frame (wpE (defs₀ (F := F)) 𝒱₀ (thr d i) none) Set.univ
            (Scf.Loop.for k0_t3_loop k0_t3_ok ⟨⟩ (k0_t3_body (F := F) i xM (Memref.isWhole_whole _) pM (Memref.isWhole_whole _) oM (Memref.isWhole_whole _)
              wM (Memref.isWhole_whole _) idxM (Memref.isWhole_whole _) inM0 (Memref.isWhole_whole _) inM1 (Memref.isWhole_whole _)
              outM0 (Memref.isWhole_whole _) outM1 (Memref.isWhole_whole _) cc0_scratch5 cc0_scratch6 cc0_scratch7 cc0_scratch8 v30_r0 v30_r1 v7 a b g)
              >>= kk) Q) := by
  iintro H Hk
  iapply (Scf.wp_for_bind frame _ _ _ _ _ k0_t3_ok _ _ (fun n _ => takeInv (F := F) i d inM0 outM0 idx row n) ?_) $$ [H]
  · intro t _
    unfold k0_t3_body
    simp only [Prog.lift, Prog.bind_op, Prog.bind_ret, Prog.pure_eq_ret]
    exact take_trip i d hidx (k0_off6_eq t) (k0_off7_eq t) (fun v h => h)
  · iapply (takeInv_start i d) $$ H
  iintro %acc HI
  iapply Hk
  ihave HI' := (Entails.of_eq (congrArg (takeInv (F := F) i d inM0 outM0 idx row) trips_t3)) $$ HI
  iapply (takeInv_end i d) $$ HI'

/-- The loop that takes the second buffer's row. -/
theorem take_loop1 {idx : IVec S16384 32} (hidx : ∀ j, (idx j).toNat < 16384) {row : Vec F S16384 .f32} {β : Type}
    {kk : Unit → Prog (TpuEff nD τ sig (Elt F) Λ₀ (.scVector ((i 0).castLE hcore0) ((i 1).castLE hsub0))) β} {Q : β → sProp 𝕄} :
    iprop(has (F := F) i d idxM idx ∗ has (F := F) i d inM1 row ∗ spare (F := F) ((i 0).castLE hcore0) ((i 1).castLE hsub0) d outM1)
      ⊢ iprop((iprop(has (F := F) i d idxM idx ∗ has (F := F) i d inM1 row ∗ has (F := F) i d outM1 (taken row idx))
            -∗ wp frame (wpE (defs₀ (F := F)) 𝒱₀ (thr d i) none) Set.univ (kk ⟨⟩) Q)
          -∗ wp frame (wpE (defs₀ (F := F)) 𝒱₀ (thr d i) none) Set.univ
            (Scf.Loop.for k0_t4_loop k0_t4_ok ⟨⟩ (k0_t4_body (F := F) i xM (Memref.isWhole_whole _) pM (Memref.isWhole_whole _) oM (Memref.isWhole_whole _)
              wM (Memref.isWhole_whole _) idxM (Memref.isWhole_whole _) inM0 (Memref.isWhole_whole _) inM1 (Memref.isWhole_whole _)
              outM0 (Memref.isWhole_whole _) outM1 (Memref.isWhole_whole _) cc0_scratch5 cc0_scratch6 cc0_scratch7 cc0_scratch8 v30_r0 v30_r1 v7 a b g)
              >>= kk) Q) := by
  iintro H Hk
  iapply (Scf.wp_for_bind frame _ _ _ _ _ k0_t4_ok _ _ (fun n _ => takeInv (F := F) i d inM1 outM1 idx row n) ?_) $$ [H]
  · intro t _
    unfold k0_t4_body
    simp only [Prog.lift, Prog.bind_op, Prog.bind_ret, Prog.pure_eq_ret]
    exact take_trip i d hidx (k0_off11_eq t) (k0_off12_eq t) (fun v h => h)
  · iapply (takeInv_start i d) $$ H
  iintro %acc HI
  iapply Hk
  ihave HI' := (Entails.of_eq (congrArg (takeInv (F := F) i d inM1 outM1 idx row) trips_t4)) $$ HI
  iapply (takeInv_end i d) $$ HI'

end Cert.Permute
-- ==== Proof.Permute.Task.lean ====
/- A tile's task: the fetched permutation inverted, the inverse published by the first tile, and the tile's 256 rows
   permuted two at a time through two pairs of buffers. -/
module

public import proofs.«01_k».proof.Proof.Permute.Loops

@[expose] public section

noncomputable section

namespace Cert.Permute

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (i : grid0.Coords) (d : Dev nD)

/-! ## The guards -/

/-- The tile's first row. -/
abbrev base : Nat := 512 * (i 1).val + 256 * (i 0).val

/-- The tile that publishes the inverse. -/
abbrev first : Prop := (i 0).val = 0 ∧ (i 1).val = 0

/-- The tile's 256 rows lie in the array. -/
theorem base_le : base i + 256 ≤ 8192 := by
  have h0 : (i 0).val < 2 := (i 0).isLt
  have h1 : (i 1).val < 16 := (i 1).isLt
  show 512 * (i 1).val + 256 * (i 0).val + 256 ≤ 8192
  omega

/-- The first output row is waited for in every trip but the first. -/
theorem cond2_iff : ∀ g : Fin k0_t2_loop.trips, k0_cond2 g = 1#1 ↔ g.val ≠ 0 := by decide +kernel
/-- The next first row is fetched in every trip but the last. -/
theorem cond3_iff : ∀ g : Fin k0_t2_loop.trips, k0_cond3 g = 1#1 ↔ g.val + 1 < 128 := by decide +kernel
/-- The second output row is waited for in every trip but the first. -/
theorem cond4_iff : ∀ g : Fin k0_t2_loop.trips, k0_cond4 g = 1#1 ↔ g.val ≠ 0 := by decide +kernel
/-- The next second row is fetched in every trip but the last. -/
theorem cond5_iff : ∀ g : Fin k0_t2_loop.trips, k0_cond5 g = 1#1 ↔ g.val + 1 < 128 := by decide +kernel

/-- The kernel's own test finds the tile that publishes the inverse. -/
theorem first_iff : ∀ i : grid0.Coords, Scalar.cmpi CmpIPredicate.ne (Scalar.extui (Scalar.cmpi CmpIPredicate.eq
    (Scalar.addi (Scalar.muli (BitVec.ofNat 32 (i 1).val) 2#32) (BitVec.ofNat 32 (i 0).val)) 0#32)) 0#32 = 1#1 ↔ first i := by
  decide +kernel

/-! ## The state of a buffer -/

/-- The tile's scratch `M`, at some contents. -/
abbrev idle {sp : Space} {sh : Shape} {e : EltTy} (M : Memref sig .scVector sp sh e) : sProp 𝕄 :=
  spare (F := F) ((i 0).castLE hcore0) ((i 1).castLE hsub0) d M

/-- The tile's counter of cell `sem`, at zero. -/
abbrev zero (sem : DmaSem sig) : sProp 𝕄 := semVal (thr d i, .dma sem) 0

/-- The tile's debt. -/
abbrev owing (O : CellTallies nD τ sig (HIx 1)) (W : Waits sig (HIx 1)) : sProp 𝕄 :=
  debt (F := F) ((i 0).castLE hcore0) ((i 1).castLE hsub0) d O W

/-- A copy of the tile's under way on cell `sem`, of `N` units, that hands over `P`. -/
abbrev flying (sem : DmaSem sig) (N : ℕ) (P : sProp 𝕄) : sProp 𝕄 :=
  underway (F := F) ((i 0).castLE hcore0) ((i 1).castLE hsub0) d sem N P

/-- The units a copied row of the output counts. -/
abbrev outCredit : ℕ := (rowMem oM ![0, 0] (by decide)).view.dmaCredit

/-- An output buffer at the start of pair `g`: idle before the first, and then being flushed to row `n`. -/
def outState (M : Memref sig .scVector .vmem S16384 .f32) (sem : DmaSem sig) (G : Vec F S8192x16384 .f32) (n g : Nat) : sProp 𝕄 :=
  if g = 0 then iprop(idle (F := F) i d M ∗ zero (F := F) i d sem)
  else flying (F := F) i d sem outCredit iprop((oLoc d ↦[rows n (n + 1)]{fullShare} G) ∗ idle (F := F) i d M)

/-- An input buffer at the start of pair `g`: row `n` being fetched, or idle after the last. -/
def inState (M : Memref sig .scVector .vmem S16384 .f32) (sem : DmaSem sig) (q : PosShare TreeShare) (x : Vec F S8192x16384 .f32) (n g : Nat) : sProp 𝕄 :=
  if g < 128 then flying (F := F) i d sem M.view.dmaCredit iprop(has (F := F) i d M (rowOf x n) ∗ (xLoc d ↦[Finset.univ]{q} x))
  else iprop(idle (F := F) i d M ∗ zero (F := F) i d sem ∗ (xLoc d ↦[Finset.univ]{q} x))

/-- The published inverse, in the hands of the tile that publishes it. -/
def published (w : IVec S16384 32) : sProp 𝕄 :=
  if first i then (wLoc d ↦[Finset.univ]{fullShare} w) else iprop(emp)

section Steps

variable {O : CellTallies nD τ sig (HIx 1)} {W : Waits sig (HIx 1)}

/-- Before a buffer is written again its flush is waited for, if there was one: the row joins those done. -/
theorem wp_settle {β : Type} {Q : β → sProp 𝕄} {K : Prog (TpuEff nD τ sig (Elt F) Λ₀ (.scVector ((i 0).castLE hcore0) ((i 1).castLE hsub0))) β}
    {P : Prop} [Decidable P] {M : Memref sig .scVector .vmem S16384 .f32} {sem : DmaSem sig} {off : Fin 2 → Nat}
    {inb : P → ∀ a, off a + S1x16384.size a ≤ S8192x16384.size a} {hsrc : M.view.WordExact}
    {hdst : ∀ h, (rowMem oM off (inb h)).view.WordExact} {G : Vec F S8192x16384 .f32} {b n g : Nat} (hP : P ↔ g ≠ 0)
    (a : Nat) (ha : g ≠ 0 → b ≤ n ∧ a = n + 1) (ha' : g = 0 → a = n) :
    iprop(outState (F := F) i d M sem G n g ∗ (oLoc d ↦[rows b n]{fullShare} G) ∗ owing (F := F) i d O W)
      ⊢ iprop((iprop(idle (F := F) i d M ∗ zero (F := F) i d sem ∗ (oLoc d ↦[rows b a]{fullShare} G) ∗ owing (F := F) i d O W)
            -∗ wp frame (wpE (defs₀ (F := F)) 𝒱₀ (thr d i) none) Set.univ K Q)
          -∗ wp frame (wpE (defs₀ (F := F)) 𝒱₀ (thr d i) none) Set.univ
            (dite P (fun h => .op (.waitDma2 sem M (rowMem oM off (inb h)) hsrc (hdst h)) fun _ => K) (fun _ => K)) Q) := by
  unfold outState
  by_cases h : P
  · have hg : g ≠ 0 := hP.1 h
    obtain ⟨hb, rfl⟩ := ha hg
    rw [dif_pos h, if_neg hg]
    iintro ⟨HF, Hd, HO⟩ Hk
    iapply (wp_hwait _ _ d (B := rowMem oM off (inb h)) (N := outCredit) rfl) $$ [HF HO]
    · isplitl [HF]; · iexact HF
      iexact HO
    iintro ⟨⟨Hr, HM⟩, Hv, HO⟩
    iapply Hk
    isplitl [HM]; · iexact HM
    isplitl [Hv]; · iexact Hv
    isplitl [Hd Hr]
    · iapply (rows_join d hb (Nat.le_succ n) fullShare G)
      isplitl [Hd]; · iexact Hd
      iexact Hr
    · iexact HO
  · have hg : g = 0 := by by_contra hg; exact h (hP.2 hg)
    rw [dif_neg h, if_pos hg, ha' hg]
    iintro ⟨⟨HM, Hv⟩, Hd, HO⟩ Hk
    iapply Hk
    isplitl [HM]; · iexact HM
    isplitl [Hv]; · iexact Hv
    isplitl [Hd]; · iexact Hd
    iexact HO

/-- The next row for a buffer is fetched, while there is one. -/
theorem wp_refetch {β : Type} {Q : β → sProp 𝕄} {K : Prog (TpuEff nD τ sig (Elt F) Λ₀ (.scVector ((i 0).castLE hcore0) ((i 1).castLE hsub0))) β}
    {P : Prop} [Decidable P] {M : Memref sig .scVector .vmem S16384 .f32} {sem : DmaSem sig} {off : Fin 2 → Nat}
    {inb : P → ∀ a, off a + S1x16384.size a ≤ S8192x16384.size a} {hdst : M.view.WordExact}
    {hsrc : ∀ h, (rowMem xM off (inb h)).view.WordExact} {ht : P → DmaTarget.Typed (nD := nD) (p := .scVector ((i 0).castLE hcore0) ((i 1).castLE hsub0)) .hbm (.dma sem) (.here M)}
    {q : PosShare TreeShare} {x : Vec F S8192x16384 .f32} {n g : Nat}
    (hP : P ↔ g < 128) (hoff : off = ![n, 0]) :
    iprop(idle (F := F) i d M ∗ zero (F := F) i d sem ∗ (xLoc d ↦[Finset.univ]{q} x))
      ⊢ iprop((inState (F := F) i d M sem q x n g -∗ wp frame (wpE (defs₀ (F := F)) 𝒱₀ (thr d i) none) Set.univ K Q)
          -∗ wp frame (wpE (defs₀ (F := F)) 𝒱₀ (thr d i) none) Set.univ
            (dite P (fun h => .op (.enqueueDma (rowMem xM off (inb h)) (.here M) (.dma sem) (hsrc h) hdst (ht h)) fun _ => K) (fun _ => K)) Q) := by
  unfold inState
  by_cases h : P
  · rw [dif_pos h, if_pos (hP.1 h)]
    iintro ⟨HM, Hv, Hx⟩ Hk
    iapply (wp_fetch _ _ d hoff) $$ [HM Hv Hx]
    · isplitl [Hx]; · iexact Hx
      isplitl [HM]; · iexact HM
      iexact Hv
    iexact Hk
  · rw [dif_neg h, if_neg (fun hg => h (hP.2 hg))]
    iintro H Hk
    iapply Hk $$ H

/-- A whole array, as its memref holds it. -/
theorem whole_holds (c : Fin τ.nSC) (s : Fin τ.nSub) (r : Ref sig .scVector) (q : PosShare TreeShare) (v : Buf (Elt F) ((V d c s).loc r)) :
    ((V d c s).loc r ↦[Finset.univ]{q} v : sProp 𝕄) ⊣⊢ holds (F := F) c s d (Memref.whole r) q v := by
  constructor
  · unfold holds
    iintro H
    iexists v
    isplitr; · ipureintro; exact View.read_whole _ _
    iapply (Entails.of_eq (congrArg (fun I => ((V d c s).loc r ↦[I]{q} v : sProp 𝕄)) (View.set_whole _).symm)) $$ H
  · unfold holds
    iintro ⟨%f, %hf, H⟩
    have hf' : f = v := (View.read_whole _ _).symm.trans hf
    subst hf'
    iapply (Entails.of_eq (congrArg (fun I => ((V d c s).loc r ↦[I]{q} f : sProp 𝕄)) (View.set_whole _))) $$ H

/-- The first tile copies the inverse out. -/
theorem wp_publish {β : Type} {Q : β → sProp 𝕄} {K : Prog (TpuEff nD τ sig (Elt F) Λ₀ (.scVector ((i 0).castLE hcore0) ((i 1).castLE hsub0))) β}
    {P : Prop} [Decidable P] {sem : DmaSem sig} {h1 h2 h3 h4 h5} {w₀ w : IVec S16384 32} (hP : P ↔ first i) :
    iprop(has (F := F) i d idxM w ∗ published (F := F) i d w₀ ∗ zero (F := F) i d sem ∗ owing (F := F) i d O W)
      ⊢ iprop((iprop(has (F := F) i d idxM w ∗ published (F := F) i d w ∗ zero (F := F) i d sem ∗ owing (F := F) i d O W)
            -∗ wp frame (wpE (defs₀ (F := F)) 𝒱₀ (thr d i) none) Set.univ K Q)
          -∗ wp frame (wpE (defs₀ (F := F)) 𝒱₀ (thr d i) none) Set.univ
            (dite P (fun _ => .op (.enqueueDma idxM (.here wM) (.dma sem) h1 h2 h3) fun _ => .op (.waitDma2 sem idxM wM h4 h5) fun _ => K) (fun _ => K)) Q) := by
  unfold published
  by_cases h : P
  · rw [dif_pos h, if_pos (hP.1 h), if_pos (hP.1 h)]
    iintro ⟨Hi, Hw, Hv, HO⟩ Hk
    ihave Hw' := (whole_holds (F := F) d ((i 0).castLE hcore0) ((i 1).castLE hsub0) main_v0_1_scv fullShare w₀).1 $$ Hw
    iapply (wp_hcopy _ _ d (by decide)) $$ [Hi Hw' Hv]
    · isplitl [Hi]; · iexact Hi
      isplitl [Hw']; · iexact Hw'
      iexact Hv
    iintro HF
    iapply (wp_hwait _ _ d (B := wM) rfl) $$ [HF HO]
    · isplitl [HF]; · iexact HF
      iexact HO
    iintro ⟨⟨Hw, Hi⟩, Hv, HO⟩
    iapply Hk
    isplitl [Hi]; · iexact Hi
    isplitl [Hw]
    · iapply (whole_holds (F := F) d ((i 0).castLE hcore0) ((i 1).castLE hsub0) main_v0_1_scv fullShare w).2 $$ Hw
    isplitl [Hv]; · iexact Hv
    iexact HO
  · rw [dif_neg h, if_neg (fun hf => h (hP.2 hf)), if_neg (fun hf => h (hP.2 hf))]
    iintro H Hk
    iapply Hk $$ H

end Steps

/-! ## The pairs of rows -/

section Pairs

variable (O : CellTallies nD τ sig (HIx 1)) (W : Waits sig (HIx 1)) (idx : IVec S16384 32) (q : PosShare TreeShare)
  (x f G : Vec F S8192x16384 .f32)

/-- The tile's state at the start of pair `g`: the rows before the last pair's are done, that pair is being flushed, this
    one is being fetched, and the rows from it on are as they were. -/
def pairInv (g : Nat) : sProp 𝕄 :=
  iprop(owing (F := F) i d O W ∗ has (F := F) i d idxM idx ∗ (oLoc d ↦[rows (base i) (base i + 2 * (g - 1))]{fullShare} G)
    ∗ (oLoc d ↦[rows (base i + 2 * g) (base i + 256)]{fullShare} f)
    ∗ outState (F := F) i d outM0 cc0_scratch7.sem G (base i + 2 * (g - 1)) g
    ∗ outState (F := F) i d outM1 cc0_scratch8.sem G (base i + (2 * g - 1)) g
    ∗ inState (F := F) i d inM0 cc0_scratch5.sem q.left x (base i + 2 * g) g
    ∗ inState (F := F) i d inM1 cc0_scratch6.sem q.right x (base i + 2 * g + 1) g)

/-- Its state when both rows of the pair are permuted and the second is yet to be flushed. -/
def midInv (g : Nat) : sProp 𝕄 :=
  iprop(owing (F := F) i d O W ∗ has (F := F) i d idxM idx ∗ (oLoc d ↦[rows (base i) (base i + 2 * g)]{fullShare} G)
    ∗ (oLoc d ↦[rows (base i + 2 * g + 1) (base i + 256)]{fullShare} f)
    ∗ flying (F := F) i d cc0_scratch7.sem outCredit
        iprop((oLoc d ↦[rows (base i + 2 * g) (base i + 2 * g + 1)]{fullShare} G) ∗ idle (F := F) i d outM0)
    ∗ has (F := F) i d outM1 (rowOf G (base i + 2 * g + 1)) ∗ zero (F := F) i d cc0_scratch8.sem
    ∗ inState (F := F) i d inM0 cc0_scratch5.sem q.left x (base i + 2 * g + 2) (g + 1)
    ∗ idle (F := F) i d inM1 ∗ zero (F := F) i d cc0_scratch6.sem ∗ (xLoc d ↦[Finset.univ]{q.right} x))

variable {idx x G} (hidx : ∀ j, (idx j).toNat < 16384) (hG : ∀ n, n < 8192 → rowOf G n = taken (rowOf x n) idx)
  (v30_r0 v30_r1 : DmaSems sig S_) (v7 : BitVec 32) (g : Fin k0_t2_loop.trips)

include hidx hG in
theorem part1_wp :
    pairInv (F := F) i d O W idx q x f G g.val
      ⊢ wp frame (wpE (defs₀ (F := F)) 𝒱₀ (thr d i) none) Set.univ
          (k0_part1 (F := F) i xM (Memref.isWhole_whole _) pM (Memref.isWhole_whole _) oM (Memref.isWhole_whole _) wM (Memref.isWhole_whole _)
            idxM (Memref.isWhole_whole _) inM0 (Memref.isWhole_whole _) inM1 (Memref.isWhole_whole _) outM0 (Memref.isWhole_whole _)
            outM1 (Memref.isWhole_whole _) cc0_scratch5 cc0_scratch6 cc0_scratch7 cc0_scratch8 v30_r0 v30_r1 v7 0#32 1#32 g)
          (fun _ => midInv (F := F) i d O W idx q x f G g.val) := by
  have hg : g.val < 128 := trips_t2 ▸ g.isLt
  have hb := base_le i
  rw [k0_part1_eq_skeleton]
  unfold k0_part1_skel
  simp only [Prog.lift, Prog.bind_op, Prog.bind_ret, Prog.pure_eq_ret]
  unfold pairInv
  rw [inState, if_pos hg, inState, if_pos hg]
  iintro ⟨HO, Hi, Hd, Hf, Ho0, Ho1, Hin0, Hin1⟩
  -- the first row arrives
  iapply (wp_hwait _ _ d (B := inM0) rfl) $$ [Hin0 HO]
  · isplitl [Hin0]; · iexact Hin0
    iexact HO
  iintro ⟨⟨Hr0, Hx0⟩, Hz5, HO⟩
  -- its output buffer is free, its entries are taken, and they go out
  iapply (wp_settle i d (G := G) (b := base i) (n := base i + 2 * (g.val - 1)) (g := g.val) (cond2_iff g) (base i + (2 * g.val - 1)) (fun h => by omega) (fun h => by omega)) $$ [Ho0 Hd HO]
  · isplitl [Ho0]; · iexact Ho0
    isplitl [Hd]; · iexact Hd
    iexact HO
  iintro ⟨Hm0, Hz7, Hd, HO⟩
  iapply (take_loop0 i d v30_r0 v30_r1 v7 0#32 1#32 g hidx) $$ [Hi Hr0 Hm0]
  · isplitl [Hi]; · iexact Hi
    isplitl [Hr0]; · iexact Hr0
    iexact Hm0
  iintro ⟨Hi, Hr0, Hm0⟩
  rw [← hG (base i + 2 * g.val) (by omega)]
  iapply (wp_flush _ _ d (n := base i + 2 * g.val) (b := base i + 256) (G := G) (k0_off4_eq i g) (by omega)) $$ [Hf Hm0 Hz7]
  · isplitl [Hf]; · iexact Hf
    isplitl [Hm0]; · iexact Hm0
    iexact Hz7
  iintro ⟨Ho0, Hf⟩
  -- the next row for its buffer
  iapply (wp_refetch i d (n := base i + 2 * g.val + 2) (g := g.val + 1) (cond3_iff g) (k0_off8_eq i g)) $$ [Hr0 Hz5 Hx0]
  · isplitl [Hr0]
    · unfold idle spare
      iexists _
      iexact Hr0
    isplitl [Hz5]; · iexact Hz5
    iexact Hx0
  iintro Hin0
  -- the second row arrives, and its entries are taken
  iapply (wp_hwait _ _ d (B := inM1) rfl) $$ [Hin1 HO]
  · isplitl [Hin1]; · iexact Hin1
    iexact HO
  iintro ⟨⟨Hr1, Hx1⟩, Hz6, HO⟩
  iapply (wp_settle i d (G := G) (b := base i) (n := base i + (2 * g.val - 1)) (g := g.val) (cond4_iff g) (base i + 2 * g.val) (fun h => by omega) (fun h => by omega)) $$ [Ho1 Hd HO]
  · isplitl [Ho1]; · iexact Ho1
    isplitl [Hd]; · iexact Hd
    iexact HO
  iintro ⟨Hm1, Hz8, Hd, HO⟩
  iapply (take_loop1 i d v30_r0 v30_r1 v7 0#32 1#32 g hidx) $$ [Hi Hr1 Hm1]
  · isplitl [Hi]; · iexact Hi
    isplitl [Hr1]; · iexact Hr1
    iexact Hm1
  iintro ⟨Hi, Hr1, Hm1⟩
  rw [wp_ret]
  imodintro
  unfold midInv
  rw [hG (base i + 2 * g.val + 1) (by omega)]
  isplitl [HO]; · iexact HO
  isplitl [Hi]; · iexact Hi
  isplitl [Hd]; · iexact Hd
  isplitl [Hf]; · iexact Hf
  isplitl [Ho0]; · iexact Ho0
  isplitl [Hm1]; · iexact Hm1
  isplitl [Hz8]; · iexact Hz8
  isplitl [Hin0]; · iexact Hin0
  isplitl [Hr1]
  · unfold idle spare
    iexists _
    iexact Hr1
  isplitl [Hz6]; · iexact Hz6
  iexact Hx1

include hidx hG in
theorem pair_trip (acc : BitVec 32) :
    pairInv (F := F) i d O W idx q x f G g.val
      ⊢ wp frame (wpE (defs₀ (F := F)) 𝒱₀ (thr d i) none) Set.univ
          (k0_t2_body (F := F) i xM (Memref.isWhole_whole _) pM (Memref.isWhole_whole _) oM (Memref.isWhole_whole _) wM (Memref.isWhole_whole _)
            idxM (Memref.isWhole_whole _) inM0 (Memref.isWhole_whole _) inM1 (Memref.isWhole_whole _) outM0 (Memref.isWhole_whole _)
            outM1 (Memref.isWhole_whole _) cc0_scratch5 cc0_scratch6 cc0_scratch7 cc0_scratch8 v30_r0 v30_r1 v7 g acc)
          (fun _ => pairInv (F := F) i d O W idx q x f G (g.val + 1)) := by
  have hg : g.val < 128 := trips_t2 ▸ g.isLt
  unfold k0_t2_body
  simp only [Prog.lift, Prog.bind_op, Prog.bind_ret, Prog.pure_eq_ret]
  rw [wp_bind]
  refine (part1_wp i d O W q f hidx hG v30_r0 v30_r1 v7 g).trans (wp_mono _ _ _ fun r => ?_)
  unfold midInv
  iintro ⟨HO, Hi, Hd, Hf, Ho0, Hm1, Hz8, Hin0, Hr1, Hz6, Hx1⟩
  iapply (wp_flush _ _ d (n := base i + 2 * g.val + 1) (b := base i + 256) (G := G) (k0_off9_eq i g) (by omega)) $$ [Hf Hm1 Hz8]
  · isplitl [Hf]; · iexact Hf
    isplitl [Hm1]; · iexact Hm1
    iexact Hz8
  iintro ⟨Ho1, Hf⟩
  iapply (wp_refetch i d (n := base i + 2 * g.val + 3) (g := g.val + 1) (cond5_iff g) (k0_off13_eq i g)) $$ [Hr1 Hz6 Hx1]
  · isplitl [Hr1]; · iexact Hr1
    isplitl [Hz6]; · iexact Hz6
    iexact Hx1
  iintro Hin1
  rw [wp_ret]
  imodintro
  unfold pairInv
  rw [outState, if_neg (Nat.succ_ne_zero _), outState, if_neg (Nat.succ_ne_zero _), Nat.add_sub_cancel,
    show base i + (2 * (g.val + 1) - 1) = base i + 2 * g.val + 1 by omega,
    show base i + 2 * (g.val + 1) = base i + 2 * g.val + 2 by omega]
  isplitl [HO]; · iexact HO
  isplitl [Hi]; · iexact Hi
  isplitl [Hd]; · iexact Hd
  isplitl [Hf]; · iexact Hf
  isplitl [Ho0]; · iexact Ho0
  isplitl [Ho1]; · iexact Ho1
  isplitl [Hin0]; · iexact Hin0
  iexact Hin1

end Pairs

/-! ## The task -/

section Whole

variable (O : CellTallies nD τ sig (HIx 1)) (W : Waits sig (HIx 1)) (q : PosShare TreeShare)
  (x : Vec F S8192x16384 .f32) (p : Vec F S16384 .f32)

/-- What a task holds of the arrays: shares of the operand and the permutation, its rows of the output, and, on the
    first tile, the published inverse. -/
def arrays (f : Vec F S8192x16384 .f32) (w : IVec S16384 32) : sProp 𝕄 :=
  iprop((pLoc d ↦[Finset.univ]{q} p) ∗ (xLoc d ↦[Finset.univ]{q} x)
    ∗ (oLoc d ↦[rows (base i) (base i + 256)]{fullShare} f) ∗ published (F := F) i d w)

/-- Its scratch buffers, at some contents. -/
def scratches : sProp 𝕄 :=
  iprop(idle (F := F) i d idxM ∗ idle (F := F) i d inM0 ∗ idle (F := F) i d inM1 ∗ idle (F := F) i d outM0 ∗ idle (F := F) i d outM1)

/-- Its counters, at zero. -/
def counters : sProp 𝕄 :=
  iprop(zero (F := F) i d cc0_scratch5.sem ∗ zero (F := F) i d cc0_scratch6.sem ∗ zero (F := F) i d cc0_scratch7.sem
    ∗ zero (F := F) i d cc0_scratch8.sem ∗ zero (F := F) i d cc0_scoped0.sem ∗ zero (F := F) i d cc0_scoped1.sem)

/-- The array every row of which is the operand's row in the inverse's order. -/
abbrev result : Vec F S8192x16384 .f32 := takenAll x (invWord (fptosi 32 p))

/-- Everything but the last row's flush. -/
def lastInv : sProp 𝕄 :=
  iprop(owing (F := F) i d O W ∗ has (F := F) i d idxM (invWord (fptosi 32 p))
    ∗ (oLoc d ↦[rows (base i) (base i + 255)]{fullShare} (result x p)) ∗ idle (F := F) i d outM0 ∗ zero (F := F) i d cc0_scratch7.sem
    ∗ flying (F := F) i d cc0_scratch8.sem outCredit
        iprop((oLoc d ↦[rows (base i + 255) (base i + 256)]{fullShare} (result x p)) ∗ idle (F := F) i d outM1)
    ∗ idle (F := F) i d inM0 ∗ zero (F := F) i d cc0_scratch5.sem ∗ idle (F := F) i d inM1 ∗ zero (F := F) i d cc0_scratch6.sem
    ∗ (xLoc d ↦[Finset.univ]{q} x) ∗ (pLoc d ↦[Finset.univ]{q} p) ∗ published (F := F) i d (invWord (fptosi 32 p))
    ∗ zero (F := F) i d cc0_scoped0.sem ∗ zero (F := F) i d cc0_scoped1.sem)

variable {p} (hq : IsPerm (fptosi 32 p)) (f : Vec F S8192x16384 .f32) (w₀ : IVec S16384 32)

include hq in
/-- The first part of the task: the permutation is fetched and inverted, the first tile publishes the inverse, and the
    rows are permuted pair by pair, each fetched and sent while the others are worked on; at its end only the last row
    is still being sent. -/
theorem part2_wp :
    iprop(owing (F := F) i d O W ∗ arrays (F := F) i d q x p f w₀ ∗ scratches (F := F) i d ∗ counters (F := F) i d)
      ⊢ wp frame (wpE (defs₀ (F := F)) 𝒱₀ (thr d i) none) Set.univ
          (k0_part2 (F := F) i xM (Memref.isWhole_whole _) pM (Memref.isWhole_whole _) oM (Memref.isWhole_whole _) wM (Memref.isWhole_whole _)
            idxM (Memref.isWhole_whole _) inM0 (Memref.isWhole_whole _) inM1 (Memref.isWhole_whole _) outM0 (Memref.isWhole_whole _)
            outM1 (Memref.isWhole_whole _) cc0_scratch5 cc0_scratch6 cc0_scratch7 cc0_scratch8 cc0_scoped0 cc0_scoped1)
          (fun _ => lastInv (F := F) i d O W q x p) := by
  have hb := base_le i
  have hidx : ∀ j, (invWord (fptosi 32 p) j).toNat < 16384 := invWord_lt _
  have hG : ∀ n, n < 8192 → rowOf (result x p) n = taken (rowOf x n) (invWord (fptosi 32 p)) :=
    fun n hn => rowOf_takenAll x _ hn
  rw [k0_part2_eq_skeleton]
  unfold k0_part2_skel
  simp only [Prog.lift, Prog.bind_op, Prog.bind_ret, Prog.pure_eq_ret]
  unfold arrays scratches counters
  iintro ⟨HO, ⟨Hp, Hx, Hf, Hw⟩, ⟨Hidx, Hin0, Hin1, Hm0, Hm1⟩, ⟨Hz5, Hz6, Hz7, Hz8, Hs0, Hs1⟩⟩
  -- the permutation is fetched
  ihave Hp' := (whole_holds (F := F) d ((i 0).castLE hcore0) ((i 1).castLE hsub0) main_arg1_scv q p).1 $$ Hp
  unfold idle spare
  icases Hin0 with ⟨%u, Hin0⟩
  iapply (wp_hcopy _ _ d (A := pM) (B := inM0) (by decide)) $$ [Hp' Hin0 Hs0]
  · isplitl [Hp']; · iexact Hp'
    isplitl [Hin0]; · iexact Hin0
    iexact Hs0
  iintro HF
  iapply (wp_hwait _ _ d (B := inM0) rfl) $$ [HF HO]
  · isplitl [HF]; · iexact HF
    iexact HO
  iintro ⟨⟨Hin0, Hp'⟩, Hs0, HO⟩
  ihave Hp := (whole_holds (F := F) d ((i 0).castLE hcore0) ((i 1).castLE hsub0) main_arg1_scv q p).2 $$ Hp'
  -- it is inverted, and the first tile publishes the inverse
  iapply (scatter_loop i d hq cc0_scoped0 cc0_scoped1) $$ [Hin0 Hidx]
  · isplitl [Hin0]; · iexact Hin0
    unfold spare
    iexact Hidx
  iintro %acc ⟨Hin0, Hidx⟩
  iapply (wp_publish i d (w₀ := w₀) (w := invWord (fptosi 32 p)) (first_iff i)) $$ [Hidx Hw Hs1 HO]
  · isplitl [Hidx]; · iexact Hidx
    isplitl [Hw]; · iexact Hw
    isplitl [Hs1]; · iexact Hs1
    iexact HO
  iintro ⟨Hidx, Hw, Hs1, HO⟩
  -- the first two rows are fetched, each with half the operand's share
  ihave Hx' := (pointsTo_share (PosShare.mem_left_op_right q)).1 $$ Hx
  icases Hx' with ⟨Hx0, Hx1⟩
  iapply (wp_fetch _ _ d (n := base i) (k0_off2_eq i)) $$ [Hin0 Hz5 Hx0]
  · isplitl [Hx0]; · iexact Hx0
    isplitl [Hin0]
    · unfold spare
      iexists _
      iexact Hin0
    iexact Hz5
  iintro Hin0
  iapply (wp_fetch _ _ d (n := base i + 1) (k0_off3_eq i)) $$ [Hin1 Hz6 Hx1]
  · isplitl [Hx1]; · iexact Hx1
    isplitl [Hin1]
    · unfold spare
      iexact Hin1
    iexact Hz6
  iintro Hin1
  -- the pairs
  iapply (Scf.wp_for_bind frame _ _ _ _ _ k0_t2_ok _ _
    (fun n _ => pairInv (F := F) i d O W (invWord (fptosi 32 p)) q x f (result x p) n)
    (fun g acc => pair_trip i d O W q f hidx hG cc0_scoped0 cc0_scoped1 _ g acc)) $$ [HO Hidx Hf Hm0 Hm1 Hz7 Hz8 Hin0 Hin1]
  · unfold pairInv
    rw [outState, if_pos rfl, outState, if_pos rfl, inState, if_pos (by omega), inState, if_pos (by omega)]
    isplitl [HO]; · iexact HO
    isplitl [Hidx]; · iexact Hidx
    isplitr
    · rw [show base i + 2 * (0 - 1) = base i by omega, rows_empty, pointsTo_empty]
      iempintro
    isplitl [Hf]; · iexact Hf
    unfold idle spare
    isplitl [Hm0 Hz7]
    · isplitl [Hm0]; · iexact Hm0
      iexact Hz7
    isplitl [Hm1 Hz8]
    · isplitl [Hm1]; · iexact Hm1
      iexact Hz8
    isplitl [Hin0]; · iexact Hin0
    iexact Hin1
  iintro %acc HI
  ihave HI' := (Entails.of_eq (congrArg (pairInv (F := F) i d O W (invWord (fptosi 32 p)) q x f (result x p)) trips_t2)) $$ HI
  unfold pairInv
  rw [outState, if_neg (by omega), outState, if_neg (by omega), inState, if_neg (by omega), inState, if_neg (by omega)]
  icases HI' with ⟨HO, Hidx, Hd, Hf, Ho0, Ho1, ⟨Hin0, Hz5, Hx0⟩, ⟨Hin1, Hz6, Hx1⟩⟩
  -- the last pair's first row is flushed
  iapply (wp_hwait _ _ d (B := rowMem oM (k0_off14 i) (k0_off14_inb i)) (N := outCredit) rfl) $$ [Ho0 HO]
  · isplitl [Ho0]; · iexact Ho0
    iexact HO
  iintro ⟨⟨Hr, Hm0⟩, Hz7, HO⟩
  ihave Hd' := (rows_join (F := F) d (a := base i) (b := base i + 2 * (128 - 1)) (e := base i + 2 * (128 - 1) + 1) (by omega) (by omega) fullShare (result x p)) $$ [Hd Hr]
  · isplitl [Hd]; · iexact Hd
    iexact Hr
  ihave Hx := (pointsTo_share (PosShare.mem_left_op_right q)).2 $$ [Hx0 Hx1]
  · isplitl [Hx0]; · iexact Hx0
    iexact Hx1
  rw [wp_ret]
  imodintro
  unfold lastInv
  isplitl [HO]; · iexact HO
  isplitl [Hidx]; · iexact Hidx
  isplitl [Hd']; · iexact Hd'
  isplitl [Hm0]; · iexact Hm0
  isplitl [Hz7]; · iexact Hz7
  isplitl [Ho1]; · iexact Ho1
  isplitl [Hin0]; · iexact Hin0
  isplitl [Hz5]; · iexact Hz5
  isplitl [Hin1]; · iexact Hin1
  isplitl [Hz6]; · iexact Hz6
  isplitl [Hx]; · iexact Hx
  isplitl [Hp]; · iexact Hp
  isplitl [Hw]; · iexact Hw
  isplitl [Hs0]; · iexact Hs0
  iexact Hs1

include hq in
/-- A task, run whole: its rows of the output come back permuted, and the published inverse is the inverse. -/
theorem task_wp :
    iprop(owing (F := F) i d O W ∗ arrays (F := F) i d q x p f w₀ ∗ scratches (F := F) i d ∗ counters (F := F) i d)
      ⊢ wp frame (wpE (defs₀ (F := F)) 𝒱₀ (thr d i) none) Set.univ
          (cc0_run (F := F) i xM (Memref.isWhole_whole _) pM (Memref.isWhole_whole _) oM (Memref.isWhole_whole _) wM (Memref.isWhole_whole _)
            idxM (Memref.isWhole_whole _) inM0 (Memref.isWhole_whole _) inM1 (Memref.isWhole_whole _) outM0 (Memref.isWhole_whole _)
            outM1 (Memref.isWhole_whole _) cc0_scratch5 cc0_scratch6 cc0_scratch7 cc0_scratch8 cc0_scoped0 cc0_scoped1)
          (fun _ => iprop(owing (F := F) i d O W ∗ arrays (F := F) i d q x p (result x p) (invWord (fptosi 32 p))
            ∗ scratches (F := F) i d ∗ counters (F := F) i d)) := by
  rw [cc0_run_eq_skeleton]
  unfold cc0_run_skel
  simp only [Prog.lift, Prog.bind_op, Prog.bind_ret, Prog.pure_eq_ret]
  rw [wp_bind]
  refine (part2_wp i d O W q x hq f w₀).trans (wp_mono _ _ _ fun r => ?_)
  unfold lastInv
  iintro ⟨HO, Hidx, Hd, Hm0, Hz7, Ho1, Hin0, Hz5, Hin1, Hz6, Hx, Hp, Hw, Hs0, Hs1⟩
  iapply (wp_hwait _ _ d (B := rowMem oM (k0_off15 i) (k0_off15_inb i)) (N := outCredit) rfl) $$ [Ho1 HO]
  · isplitl [Ho1]; · iexact Ho1
    iexact HO
  iintro ⟨⟨Hr, Hm1⟩, Hz8, HO⟩
  ihave Hd' := (rows_join (F := F) d (a := base i) (b := base i + 255) (e := base i + 256) (by omega) (by omega) fullShare (result x p)) $$ [Hd Hr]
  · isplitl [Hd]; · iexact Hd
    iexact Hr
  rw [wp_ret]
  imodintro
  unfold arrays scratches counters
  isplitl [HO]; · iexact HO
  isplitl [Hp Hx Hd' Hw]
  · isplitl [Hp]; · iexact Hp
    isplitl [Hx]; · iexact Hx
    isplitl [Hd']; · iexact Hd'
    iexact Hw
  isplitl [Hidx Hin0 Hin1 Hm0 Hm1]
  · isplitl [Hidx]
    · unfold idle spare
      iexists _
      iexact Hidx
    isplitl [Hin0]; · iexact Hin0
    isplitl [Hin1]; · iexact Hin1
    isplitl [Hm0]; · iexact Hm0
    iexact Hm1
  isplitl [Hz5]; · iexact Hz5
  isplitl [Hz6]; · iexact Hz6
  isplitl [Hz7]; · iexact Hz7
  isplitl [Hz8]; · iexact Hz8
  isplitl [Hs0]; · iexact Hs0
  iexact Hs1

end Whole

end Cert.Permute
-- ==== Proof.Permute.Launch.lean ====
/- The launch: what each tile is handed of the arrays, the tiles' tasks, @main, and the program's run with its value: the
   operand's columns in the inverse's order, and the inverse. -/
module

public import proofs.«01_k».proof.Proof.Permute.Task

@[expose] public section

noncomputable section

namespace Cert.Permute

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the tiles are handed -/

/-- The coordinates of tile `s` of SparseCore `c`. -/
def coordsV (c : Fin 2) (s : Fin 16) : grid0.Coords :=
  fun | 0 => c | 1 => s | ⟨_ + 2, h⟩ => absurd h (Nat.not_lt.2 (Nat.le_add_left _ _))

/-- A tile's read share of the arrays every tile reads. -/
def shareOf (c : Fin 2) (s : Fin 16) : PosShare TreeShare :=
  Transfers.dealOf (Transfers.dealOf fullShare Finset.univ c) Finset.univ s

/-- Tile `(c, s)`'s part of the arrays, with the output at `f` and the published inverse at `w`. -/
def part (d : Dev nD) (f : Vec F S8192x16384 .f32) (w : IVec S16384 32) (c : Fin 2) (s : Fin 16) : sProp 𝕄 :=
  arrays (F := F) (coordsV c s) d (shareOf c s) (m (xLoc d)) (m (pLoc d)) f w

/-- The arrays whole, with the output at `f` and the published inverse at `w`. -/
def whole (d : Dev nD) (f : Vec F S8192x16384 .f32) (w : IVec S16384 32) : sProp 𝕄 :=
  iprop((pLoc d ↦[Finset.univ]{fullShare} m (pLoc d)) ∗ (xLoc d ↦[Finset.univ]{fullShare} m (xLoc d))
    ∗ (oLoc d ↦[Finset.univ]{fullShare} f) ∗ (wLoc d ↦[Finset.univ]{fullShare} w))

/-- The read shares of all tiles make the whole array. -/
theorem deal_tiles (ℓ : Loc nD τ sig) (f : Buf (Elt F) ℓ) :
    (bigSep Finset.univ fun c : Fin 2 => bigSep Finset.univ fun s : Fin 16 => (ℓ ↦[Finset.univ]{shareOf c s} f : sProp 𝕄))
      = (ℓ ↦[Finset.univ]{fullShare} f) := by
  unfold shareOf
  rw [Transfers.pointsTo_deal (Finset.univ : Finset (Fin 2)) Finset.univ_nonempty fullShare]
  exact bigSep_congr fun c _ => (Transfers.pointsTo_deal (Finset.univ : Finset (Fin 16)) Finset.univ_nonempty _).symm

/-- The rows of tile `(c, s)`. -/
abbrev rowsOf (c : Fin 2) (s : Fin 16) : Finset S8192x16384.Idx := rows (base (coordsV c s)) (base (coordsV c s) + 256)

/-- A tile's first row, by its numbers. -/
theorem base_coords (c : Fin 2) (s : Fin 16) : base (coordsV c s) = 512 * s.val + 256 * c.val := rfl

/-- Every row is of one tile: the row number tells the SparseCore and the tile. -/
theorem mem_rowsOf {c : Fin 2} {s : Fin 16} {j : S8192x16384.Idx} :
    j ∈ rowsOf c s ↔ c.val = (j 0).val / 256 % 2 ∧ s.val = (j 0).val / 512 := by
  have hc := c.isLt
  rw [mem_rows, base_coords]
  constructor <;> intro h <;> omega

/-- The tiles' rows make the whole output. -/
theorem deal_rows (d : Dev nD) (f : Buf (Elt F) (oLoc d)) :
    (bigSep Finset.univ fun c : Fin 2 => bigSep Finset.univ fun s : Fin 16 => (oLoc d ↦[rowsOf c s]{fullShare} f : sProp 𝕄))
      = (oLoc d ↦[Finset.univ]{fullShare} f) := by
  have h1 : ∀ c : Fin 2, (bigSep Finset.univ fun s : Fin 16 => (oLoc d ↦[rowsOf c s]{fullShare} f : sProp 𝕄))
      = (oLoc d ↦[Finset.univ.biUnion (rowsOf c)]{fullShare} f) := fun c =>
    (pointsTo_biUnion Finset.univ (ℓ := oLoc d) (rowsOf c) fun s _ s' _ h => Finset.disjoint_left.2 fun j hj hj' =>
      h (Fin.ext ((mem_rowsOf.1 hj).2.trans (mem_rowsOf.1 hj').2.symm))).symm
  rw [bigSep_congr fun c _ => h1 c, ← pointsTo_biUnion Finset.univ (ℓ := oLoc d) (fun c => Finset.univ.biUnion (rowsOf c))
    fun c _ c' _ h => Finset.disjoint_left.2 fun j hj hj' => by
      obtain ⟨s, -, hs⟩ := Finset.mem_biUnion.1 hj
      obtain ⟨s', -, hs'⟩ := Finset.mem_biUnion.1 hj'
      exact h (Fin.ext ((mem_rowsOf.1 hs).1.trans (mem_rowsOf.1 hs').1.symm))]
  refine congrArg (fun S => (oLoc d ↦[S]{fullShare} f : sProp 𝕄)) (Finset.ext fun j => ?_)
  have hj := row_lt j
  simp only [Finset.mem_biUnion, Finset.mem_univ, true_and, iff_true]
  exact ⟨⟨(j 0).val / 256 % 2, by omega⟩, ⟨(j 0).val / 512, by omega⟩, mem_rowsOf.2 ⟨rfl, rfl⟩⟩

/-- The tile that publishes the inverse is the first of the first SparseCore. -/
theorem first_coords (c : Fin 2) (s : Fin 16) : first (coordsV c s) ↔ c = 0 ∧ s = 0 := by
  unfold first
  exact and_congr ⟨fun h => Fin.ext h, fun h => by subst h; rfl⟩ ⟨fun h => Fin.ext h, fun h => by subst h; rfl⟩

/-- Nothing, for every index, is nothing. -/
theorem bigSep_none {I : Type} (s : Finset I) : (bigSep s fun _ => iprop(emp)) = (iprop(emp) : sProp 𝕄) := bigSep_emp_const s

/-- What only one index has is all there is. -/
theorem bigSep_one {I : Type} [Fintype I] [DecidableEq I] (a : I) (Φ : I → sProp 𝕄) (h : ∀ i, i ≠ a → Φ i = iprop(emp)) :
    bigSep Finset.univ Φ = Φ a := by
  rw [SparseCore.bigSep_erase' (Finset.mem_univ a), bigSep_congr fun i hi => h i (Finset.mem_erase.1 hi).1, bigSep_none]
  exact sep_emp.1.antisymm sep_emp.2

/-- Of the published inverse, the first tile has the whole and the others nothing. -/
theorem deal_published (d : Dev nD) (w : IVec S16384 32) :
    (bigSep Finset.univ fun c : Fin 2 => bigSep Finset.univ fun s : Fin 16 => published (F := F) (coordsV c s) d w)
      = (wLoc d ↦[Finset.univ]{fullShare} w) := by
  unfold published
  rw [bigSep_one 0, bigSep_one 0]
  · exact if_pos ((first_coords 0 0).2 ⟨rfl, rfl⟩)
  · exact fun s hs => if_neg fun h => hs ((first_coords 0 s).1 h).2
  · intro c hc
    rw [bigSep_congr fun s _ => if_neg fun h => hc ((first_coords c s).1 h).1, bigSep_none]

/-- The tiles' parts are the arrays. -/
theorem parts_eq (d : Dev nD) (f : Vec F S8192x16384 .f32) (w : IVec S16384 32) :
    (bigSep Finset.univ fun c : Fin 2 => bigSep Finset.univ fun s : Fin 16 => part m d f w c s) = whole m d f w := by
  unfold part arrays whole
  simp only [bigSep_sep']
  rw [deal_tiles, deal_tiles, deal_rows, deal_published]

/-! ## The launch -/

/-- The launch's permutations are permutations. -/
def PreOK : Prop := ∀ d : Dev nD, IsPerm (fptosi 32 (m (pLoc d)))

/-- The inverse of the launch's permutation, and the operand permuted. -/
abbrev inverse (d : Dev nD) : IVec S16384 32 := invWord (fptosi 32 (m (pLoc d)))
/-- The permuted array that the run is to leave. -/
abbrev permuted (d : Dev nD) : Vec F S8192x16384 .f32 := result (m (xLoc d)) (m (pLoc d))

/-- What a SparseCore and a tile are handed and hand back. -/
def P : (K (F := F)).Pay (nD := nD) (Val := Elt F) (Name := ℕ) (U := UU) where
  st := fun | 0 => fun d c => bigSep Finset.univ fun s : Fin 16 => part m d (m (oLoc d)) (m (wLoc d)) c s
  dn := fun | 0 => fun d c => bigSep Finset.univ fun s : Fin 16 => part m d (permuted m d) (inverse m d) c s
  go := fun | 0 => fun d c s => part m d (m (oLoc d)) (m (wLoc d)) c s
  td := fun | 0 => fun d c s => part m d (permuted m d) (inverse m d) c s
  x := fun _ _ => iprop(emp)

/-- A tile's part can be handed over at a launch. -/
instance part_storable (d : Dev nD) (f : Vec F S8192x16384 .f32) (w : IVec S16384 32) (c : Fin 2) (s : Fin 16) :
    BI.Storable (upEmb : UEmb _ 𝕄) (part m d f w c s) := by
  unfold part arrays published
  split <;> infer_instance

/-- All that the launch hands over can be. -/
instance P_storable : (P (F := F) m).IsStorable where
  st q d c := by match q with | 0 => unfold P; infer_instance
  dn q d c := by match q with | 0 => unfold P; infer_instance
  go q d c s := by match q with | 0 => unfold P; infer_instance
  td q d c s := by match q with | 0 => unfold P; infer_instance

/-- A SparseCore hands each of its tiles that tile's part, and takes the parts back as they come. -/
theorem vecSplit : (K (F := F)).VecSplit' (P m) 0 := by
  intro d c
  show (bigSep Finset.univ fun s : Fin 16 => part m d (m (oLoc d)) (m (wLoc d)) c s) ⊢ |={Set.univ}=> iprop(
      (bigSep Finset.univ fun s : Fin 16 => part m d (m (oLoc d)) (m (wLoc d)) c s)
      ∗ ((bigSep Finset.univ fun s : Fin 16 => part m d (permuted m d) (inverse m d) c s)
          -∗ (bigSep Finset.univ fun s : Fin 16 => part m d (permuted m d) (inverse m d) c s)))
  iintro H
  imodintro
  isplitl [H]; · iexact H
  iintro H
  iexact H

/-! ## A tile's task from what the launch hands it -/

section Tile

variable (d : Dev nD) (c : Fin τ.nSC) (s : Fin τ.nSub)

/-- A DMA counter of a tile. -/
abbrev counterOf (sem : DmaSem sig) : GSem nD τ sig := (V d c s, SemLoc.dma sem)

/-- The tile's counters other than the kernel's six. -/
def otherCells : Finset (GSem nD τ sig) :=
  ((((((ownCells (V d c s)).erase (counterOf d c s cc0_scratch5.sem)).erase (counterOf d c s cc0_scratch6.sem)).erase (counterOf d c s cc0_scratch7.sem)).erase
    (counterOf d c s cc0_scratch8.sem)).erase (counterOf d c s cc0_scoped0.sem)).erase (counterOf d c s cc0_scoped1.sem)

/-- A DMA counter of the kernel is one of its tile's own. -/
theorem mem_own {sem : DmaSem sig} (h : (SemLoc.dma sem : SemLoc sig).isScoped .scVector = true) :
    counterOf d c s sem ∈ ownCells (V d c s) := mem_ownCells.mpr ⟨rfl, h⟩

/-- Different counters of a tile are different. -/
theorem counter_ne {a b : DmaSem sig} (h : a ≠ b) : counterOf d c s a ≠ counterOf d c s b := fun e =>
  h (SemLoc.dma.inj (Prod.mk.inj e).2)

/-- The tile's counters, all at zero: the kernel's six, and the others. -/
theorem ownSems0_six :
    (ownSems0 (V d c s) : sProp 𝕄)
      = iprop(semVal (counterOf d c s cc0_scratch5.sem) 0 ∗ semVal (counterOf d c s cc0_scratch6.sem) 0 ∗ semVal (counterOf d c s cc0_scratch7.sem) 0
          ∗ semVal (counterOf d c s cc0_scratch8.sem) 0 ∗ semVal (counterOf d c s cc0_scoped0.sem) 0 ∗ semVal (counterOf d c s cc0_scoped1.sem) 0
          ∗ bigSep (otherCells d c s) fun g => semVal g 0) := by
  unfold SparseCore.Cfg.ownSems0 otherCells
  rw [SparseCore.bigSep_erase' (mem_own d c s (sem := cc0_scratch5.sem) (by decide)),
    SparseCore.bigSep_erase' (i := counterOf d c s cc0_scratch6.sem) ?_, SparseCore.bigSep_erase' (i := counterOf d c s cc0_scratch7.sem) ?_,
    SparseCore.bigSep_erase' (i := counterOf d c s cc0_scratch8.sem) ?_, SparseCore.bigSep_erase' (i := counterOf d c s cc0_scoped0.sem) ?_,
    SparseCore.bigSep_erase' (i := counterOf d c s cc0_scoped1.sem) ?_]
  all_goals
    simp only [Finset.mem_erase]
    repeat' apply And.intro
  all_goals first
    | exact mem_own d c s (by decide)
    | exact counter_ne d c s (by decide)

/-- The tile's buffers other than the kernel's five. -/
def otherRefs : Finset (DevRef τ sig) :=
  (((((ownRefs (τ := τ) (.scVector c s)).erase ((Proc.scVector c s).devRef cc0_scratch0)).erase ((Proc.scVector c s).devRef cc0_scratch1)).erase
    ((Proc.scVector c s).devRef cc0_scratch2)).erase ((Proc.scVector c s).devRef cc0_scratch3)).erase ((Proc.scVector c s).devRef cc0_scratch4)

/-- Different buffers of a tile are different. -/
theorem ref_ne {a b : Ref sig .scVector} (h : a ≠ b) : (Proc.scVector c s).devRef a ≠ (Proc.scVector c s).devRef b :=
  fun e => h (Proc.devRef_injective _ e)

/-- The tile's buffers: the kernel's five, and the others. -/
theorem ownBufs_five :
    (ownBufs (V d c s) : sProp 𝕄)
      = iprop((∃ f, (V d c s).loc cc0_scratch0 ↦{fullShare} f) ∗ (∃ f, (V d c s).loc cc0_scratch1 ↦{fullShare} f)
          ∗ (∃ f, (V d c s).loc cc0_scratch2 ↦{fullShare} f) ∗ (∃ f, (V d c s).loc cc0_scratch3 ↦{fullShare} f)
          ∗ (∃ f, (V d c s).loc cc0_scratch4 ↦{fullShare} f)
          ∗ bigSep (otherRefs c s) fun b => iprop(∃ f, ((d, b) : Loc nD τ sig) ↦{fullShare} f)) := by
  unfold SparseCore.Cfg.ownBufs otherRefs
  refine (SparseCore.bigSep_erase' (SparseCore.Cfg.mem_ownRefs_of_owner (p := Proc.scVector c s)
    (b := (Proc.scVector c s).devRef cc0_scratch0) rfl)).trans ?_
  rw [SparseCore.bigSep_erase' (i := (Proc.scVector c s).devRef cc0_scratch1) ?_,
    SparseCore.bigSep_erase' (i := (Proc.scVector c s).devRef cc0_scratch2) ?_,
    SparseCore.bigSep_erase' (i := (Proc.scVector c s).devRef cc0_scratch3) ?_,
    SparseCore.bigSep_erase' (i := (Proc.scVector c s).devRef cc0_scratch4) ?_]
  all_goals
    simp only [Finset.mem_erase]
    repeat' apply And.intro
  all_goals first
    | exact SparseCore.Cfg.mem_ownRefs_of_owner (p := Proc.scVector c s) rfl
    | exact ref_ne c s (by decide)

/-- A scratch buffer of the tile, whole, at some contents. -/
theorem spare_eq (r : Ref sig .scVector) :
    iprop(∃ f, (V d c s).loc r ↦{fullShare} f) ⊣⊢ (spare (F := F) c s d (Memref.whole r) : sProp 𝕄) := by
  unfold spare
  constructor
  · iintro ⟨%f, H⟩
    iexists f
    iapply (whole_holds (F := F) d c s r fullShare f).1
    iexact H
  · iintro ⟨%f, H⟩
    iexists f
    iapply (whole_holds (F := F) d c s r fullShare f).2
    iexact H

end Tile

/-- A tile's task, from what the launch hands the tile and back to it. -/
theorem tile_body (d : Dev nD) (c : Fin 2) (s : Fin 16) (hpre : PreOK m) (O : CellTallies nD τ sig (HIx 1)) (W : Waits sig (HIx 1))
    (hO : ∀ g, O g none = 0) :
    iprop(levAts (K (F := F)).L (K (F := F)).lev ∗ emp ∗ part m d (m (oLoc d)) (m (wLoc d)) c s
        ∗ scopedBufs (thr d (coordsV c s)) ∗ scopedSems0 (thr d (coordsV c s)) ∗ owes (thr d (coordsV c s)) O W)
      ⊢ wp frame (wpE (defs₀ (F := F)) 𝒱₀ (thr d (coordsV c s)) none) Set.univ
          (cc0_run (F := F) (coordsV c s) xM (Memref.isWhole_whole _) pM (Memref.isWhole_whole _) oM (Memref.isWhole_whole _)
            wM (Memref.isWhole_whole _) idxM (Memref.isWhole_whole _) inM0 (Memref.isWhole_whole _) inM1 (Memref.isWhole_whole _)
            outM0 (Memref.isWhole_whole _) outM1 (Memref.isWhole_whole _) cc0_scratch5 cc0_scratch6 cc0_scratch7 cc0_scratch8 cc0_scoped0
            cc0_scoped1)
          fun _ => iprop(part m d (permuted m d) (inverse m d) c s ∗ scopedBufs (thr d (coordsV c s)) ∗ scopedSems0 (thr d (coordsV c s))
            ∗ ∃ W', ⌜∀ p ∈ W', p ∈ W ∨ p.2 = none ∨ p.2 = some 0⌝ ∗ owes (thr d (coordsV c s)) O W') := by
  unfold part
  rw [(K (F := F)).scopedBufs_V facts d _ _, SparseCore.Cfg.scopedSems0_V (Val := Elt F) d _ _, ownSems0_six, ownBufs_five]
  iintro ⟨#Hlv, -, Ha, ⟨H0, H1, H2, H3, H4, Hbufs⟩, ⟨Hz5, Hz6, Hz7, Hz8, Hs0, Hs1, Hsems⟩, HO⟩
  ihave H0 := (spare_eq (F := F) d _ _ cc0_scratch0).1 $$ H0
  ihave H1 := (spare_eq (F := F) d _ _ cc0_scratch1).1 $$ H1
  ihave H2 := (spare_eq (F := F) d _ _ cc0_scratch2).1 $$ H2
  ihave H3 := (spare_eq (F := F) d _ _ cc0_scratch3).1 $$ H3
  ihave H4 := (spare_eq (F := F) d _ _ cc0_scratch4).1 $$ H4
  ihave Hmw := ((K (F := F)).mayWaits_none (thr := thr d (coordsV c s)) hO) $$ Hlv
  iapply (wp_wand _ _ _) $$ [Ha H0 H1 H2 H3 H4 Hz5 Hz6 Hz7 Hz8 Hs0 Hs1 HO Hmw]
  · iapply (task_wp (coordsV c s) d O W (shareOf c s) (m (xLoc d)) (hpre d) (m (oLoc d)) (m (wLoc d)))
    unfold scratches counters
    isplitl [HO Hmw]
    · unfold owing debt
      isplitl [Hmw]; · iexact Hmw
      iexists W
      isplitr; · ipureintro; exact fun p hp => .inl hp
      iexact HO
    isplitl [Ha]; · iexact Ha
    isplitl [H0 H1 H2 H3 H4]
    · isplitl [H0]; · iexact H0
      isplitl [H1]; · iexact H1
      isplitl [H2]; · iexact H2
      isplitl [H3]; · iexact H3
      iexact H4
    isplitl [Hz5]; · iexact Hz5
    isplitl [Hz6]; · iexact Hz6
    isplitl [Hz7]; · iexact Hz7
    isplitl [Hz8]; · iexact Hz8
    isplitl [Hs0]; · iexact Hs0
    iexact Hs1
  unfold scratches counters owing debt
  iintro %r ⟨⟨-, %W', %hW', HO⟩, Ha, ⟨H0, H1, H2, H3, H4⟩, ⟨Hz5, Hz6, Hz7, Hz8, Hs0, Hs1⟩⟩
  isplitl [Ha]; · iexact Ha
  isplitl [H0 H1 H2 H3 H4 Hbufs]
  · isplitl [H0]; · iapply (spare_eq (F := F) d _ _ cc0_scratch0).2; iexact H0
    isplitl [H1]; · iapply (spare_eq (F := F) d _ _ cc0_scratch1).2; iexact H1
    isplitl [H2]; · iapply (spare_eq (F := F) d _ _ cc0_scratch2).2; iexact H2
    isplitl [H3]; · iapply (spare_eq (F := F) d _ _ cc0_scratch3).2; iexact H3
    isplitl [H4]; · iapply (spare_eq (F := F) d _ _ cc0_scratch4).2; iexact H4
    iexact Hbufs
  isplitl [Hz5 Hz6 Hz7 Hz8 Hs0 Hs1 Hsems]
  · isplitl [Hz5]; · iexact Hz5
    isplitl [Hz6]; · iexact Hz6
    isplitl [Hz7]; · iexact Hz7
    isplitl [Hz8]; · iexact Hz8
    isplitl [Hs0]; · iexact Hs0
    isplitl [Hs1]; · iexact Hs1
    iexact Hsems
  iexists W'
  isplitr
  · ipureintro; exact fun p hp => (hW' p hp).imp_right Or.inl
  iexact HO

/-- What a tile runs when it is called: the kernel, at the tile's coordinates. -/
theorem defs₀_vector (c : Fin τ.nSC) (s : Fin τ.nSub) :
    defs₀ (F := F) (.scVector c s) 0 ()
      = SparseCore.onTile hcore0 hsub0 (fun c s => cc0_run (coordsV c s)
          xM (Memref.isWhole_whole _) pM (Memref.isWhole_whole _) oM (Memref.isWhole_whole _) wM (Memref.isWhole_whole _)
          idxM (Memref.isWhole_whole _) inM0 (Memref.isWhole_whole _) inM1 (Memref.isWhole_whole _) outM0 (Memref.isWhole_whole _)
          outM1 (Memref.isWhole_whole _) cc0_scratch5 cc0_scratch6 cc0_scratch7 cc0_scratch8 cc0_scoped0 cc0_scoped1) ⟨⟩ c s := rfl

/-- Every tile does its part, whatever it is called beside. -/
theorem tileObl (hpre : PreOK m) : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]; simp only [SparseCore.onTile, hc, and_self, ↓reduceDIte]
  exact tile_body m d c s hpre O W hO

/-! ## The run -/

/-- The launch element: the handshakes' tokens, nothing of the kernel's own. -/
def u₀ : UU := (Rounds.initOf (K (F := F)).hsCells (K (F := F)).hsToks, 1)

/-- The launch element gives the handshakes their tokens. -/
theorem hu₀ : (ownU (u₀ (F := F)) : sProp 𝕄)
    ⊢ |={Set.univ}=> iprop(BI.own (EH (Rounds.initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  unfold P; dsimp only
  rw [bigSep_congr fun _ _ => bigSep_none _, bigSep_none, bigSep_none]
  isplitr <;> iempintro

/-- The four arrays of the program. -/
theorem unscopedBufs_eq (d : Dev nD) (X : (b : Ref sig .tc) → Buf (Elt F) ((d.tc : Thread nD τ).loc b)) :
    (unscopedBufs d X : sProp 𝕄) = iprop((xLoc d ↦{fullShare} X main_arg0) ∗ (pLoc d ↦{fullShare} X main_arg1)
      ∗ (oLoc d ↦{fullShare} X main_v0_0) ∗ wLoc d ↦{fullShare} X main_v0_1) := by
  unfold unscopedBufs
  rw [show (Finset.univ.filter fun b : Ref sig .tc => ¬ b.isScoped) = {main_arg0, main_arg1, main_v0_0, main_v0_1} by decide,
    SparseCore.bigSep_insert' (by decide), SparseCore.bigSep_insert' (by decide), SparseCore.bigSep_insert' (by decide), bigSep_singleton]

/-- The call is handed the four arrays as they are at launch. -/
theorem st0_eq (d : Dev nD) : (bigSep Finset.univ fun c : Fin ((K (F := F)).nCore 0) => (P m).st 0 d c) = whole m d (m (oLoc d)) (m (wLoc d)) :=
  parts_eq m d _ _
/-- The call hands them back with the two results. -/
theorem dn0_eq (d : Dev nD) : (bigSep Finset.univ fun c : Fin ((K (F := F)).nCore 0) => (P m).dn 0 d c) = whole m d (permuted m d) (inverse m d) :=
  parts_eq m d _ _

/-- @main on the TensorCore: the one call, from the four arrays, to the two results. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ whole m d (permuted m d) (inverse m d) ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hp, Ho, Hw⟩, Hts, -⟩, -⟩
  iapply ((K (F := F)).wp_run (D (F := F)) 𝒱 (EH := EH) (P := P m) κ d 0) $$ [Hst Hx Hp Ho Hw Hb Hts]
  isplitr; · iexact Hctx
  isplitl [Hst]; · iexact Hst
  isplitl [Hx Hp Ho Hw]
  · rw [st0_eq]
    unfold whole
    isplitl [Hp]; · iexact Hp
    isplitl [Hx]; · iexact Hx
    isplitl [Ho]; · iexact Ho
    iexact Hw
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- What the run leaves in the four arrays. -/
def fq (d : Dev nD) (s' : Phys nD τ sig (Elt F)) : Prop :=
  s'.mem.mem (pLoc d) = m (pLoc d) ∧ s'.mem.mem (xLoc d) = m (xLoc d) ∧ s'.mem.mem (oLoc d) = permuted m d
    ∧ s'.mem.mem (wLoc d) = inverse m d

/-- An array held whole at some contents has them in the memory. -/
theorem read_off (s' : Phys nD τ sig (Elt F)) (ℓ : Loc nD τ sig) (f : Buf (Elt F) ℓ) :
    iprop((ℓ ↦[Finset.univ]{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

/-- What the program holds at its end says what the memory holds. -/
theorem hfin (d : Dev nD) (s' : Phys nD τ sig (Elt F)) :
    iprop(whole m d (permuted m d) (inverse m d) ∗ SI s') ⊢ (⌜fq m d s'⌝ : sProp 𝕄) := by
  unfold whole
  iintro ⟨⟨Hp, Hx, Ho, Hw⟩, HSI⟩
  ihave H := (read_off s' (pLoc d) _) $$ [Hp HSI]
  · isplitl [Hp] <;> iassumption
  icases H with ⟨%h1, HSI⟩
  ihave H := (read_off s' (xLoc d) _) $$ [Hx HSI]
  · isplitl [Hx] <;> iassumption
  icases H with ⟨%h2, HSI⟩
  ihave H := (read_off s' (oLoc d) _) $$ [Ho HSI]
  · isplitl [Ho] <;> iassumption
  icases H with ⟨%h3, HSI⟩
  ihave H := (read_off s' (wLoc d) _) $$ [Hw HSI]
  · isplitl [Hw] <;> iassumption
  icases H with ⟨%h4, HSI⟩
  ipureintro; exact ⟨h1, h2, h3, h4⟩

/-- What the whole run leaves: the arguments as they were, the two results, every semaphore at zero. -/
def Ran : PUnit × MemSt nD τ sig (Elt F) → Prop := fun r =>
  (∀ d : Dev nD, r.2.mem (pLoc d) = m (pLoc d) ∧ r.2.mem (xLoc d) = m (xLoc d) ∧ r.2.mem (oLoc d) = permuted m d
    ∧ r.2.mem (wLoc d) = inverse m d) ∧ r.2.sem = fun _ => 0

/-- The program runs, whatever the float values, from a launch memory whose permutation is one. -/
theorem run_main [∀ e, Nonempty (Elt F e)] (hpre : PreOK m) :
    θ_run (Cert.KernelIdeal.defs (F := F)) (Cert.KernelIdeal.threads (F := F)) ⟨m, fun _ => 0, ρ⟩ (Ran m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (fun d => whole m d (permuted m d) (inverse m d)) (u₀ (F := F)) (sep_elim_left.trans (hu₀ m)) (hmain m ρ)
    (fq m) (hfin m) (Ran m) (fun _ h hz => ⟨h, hz⟩)

end Cert.Permute
-- ==== Proof.Permute.Reference.lean ====
/- What the reference computes: the stable argsort of the permutation is its inverse, and its gather takes every row
   of the array at the places that the inverse names. The precondition is read here too: it says that the words are
   a permutation. -/
module

public import proofs.«01_k».proof.Defs
public import proofs.«01_k».proof.Proof.Permute.Values
public import proofs.«01_k».proof.Proof.Gen.ReferenceIdeal.Run
public import proofs.«01_k».proof.Proof.Gen.Pre_permutation
public import Idealize.ShloMosaic.Lib.SortFacts
public import Idealize.ShloMosaic.Lib.ReduceAll
public import Idealize.ShloMosaic.Lib.WordCmp
public import Idealize.ShloMosaic.PureOps.Ideal.Laws

@[expose] public section

noncomputable section

namespace Cert.Permute

open Idealize.ShloMosaic Cert.KernelIdeal

/-! ## A sort of one axis, read at a place -/

/-- Going along the only axis of a vector from any place, one arrives at the place of that number. -/
theorem along_pos (j : S16384.Idx) (k : Fin 16384) : j.along (s := S16384) 0 k = pos k.val := by
  refine idx_ext ?_
  rw [pos_val k.isLt]
  rfl

/-- A sorted vector holds at place `j` the entry of the position that the order puts there. -/
theorem sort_at {α : Type} (cmp : α → α → BitVec 1) (x : S16384.Idx → α) (j : S16384.Idx) :
    Host.sort S16384 0 cmp x j
      = x (pos (sortedFrom (n := 16384) (fun k k' => cmp (x (pos k.val)) (x (pos k'.val)) == 1#1) (j 0)).val) := by
  have h : Host.sort S16384 0 cmp x j = x (j.along (s := S16384) 0 (sortedFrom (n := 16384)
      (fun k k' => cmp (x (j.along (s := S16384) 0 k)) (x (j.along (s := S16384) 0 k')) == 1#1) (j 0))) := rfl
  rw [h]
  simp only [along_pos]

/-- The second vector of a sort of two: its entry at the position that the order of the pairs puts there. -/
theorem sort2_at {α β : Type} (cmp : α × β → α × β → BitVec 1) (x : S16384.Idx → α) (y : S16384.Idx → β)
    (j : S16384.Idx) :
    (Host.sort2 S16384 0 cmp x y).2 j
      = y (pos (sortedFrom (n := 16384)
          (fun k k' => cmp (x (pos k.val), y (pos k.val)) (x (pos k'.val), y (pos k'.val)) == 1#1) (j 0)).val) := by
  have h : (Host.sort2 S16384 0 cmp x y).2 j = y (j.along (s := S16384) 0 (sortedFrom (n := 16384)
      (fun k k' => cmp (x (j.along (s := S16384) 0 k), y (j.along (s := S16384) 0 k))
        (x (j.along (s := S16384) 0 k'), y (j.along (s := S16384) 0 k')) == 1#1) (j 0))) := rfl
  rw [h]
  simp only [along_pos]

/-- The position that the signed order of the words `q` puts at each place. -/
def rank (q : IVec S16384 32) : Fin 16384 → Fin 16384 :=
  sortedFrom fun k k' => IntOp.cmpi .slt (q (pos k.val)) (q (pos k'.val)) == 1#1

/-! ## The precondition -/

/-- The words in order are 0, 1, 2, …: at the position that the order puts at place `n`, the word is `n`. -/
def Sorted (q : IVec S16384 32) : Prop := ∀ n : Fin 16384, q (pos (rank q n).val) = BitVec.ofNat 32 n.val

/-- Words that are 0, 1, 2, … when sorted are a permutation. -/
theorem Sorted.isPerm {q : IVec S16384 32} (h : Sorted q) : IsPerm q := by
  have hval : ∀ n, (q (pos (rank q n).val)).toNat = n.val := fun n => by rw [h n, ofNat_toNat n.isLt]
  have hall : ∀ j : S16384.Idx, ∃ n, j = pos (rank q n).val := fun j => by
    obtain ⟨n, hn⟩ := sortedFrom_surjective (fun k k' : Fin 16384 => IntOp.cmpi .slt (q (pos k.val)) (q (pos k'.val)) == 1#1)
      ⟨(j 0).val, idx_lt j⟩
    refine ⟨n, ?_⟩
    have : rank q n = ⟨(j 0).val, idx_lt j⟩ := hn
    rw [this, pos_self]
  constructor
  · intro j
    obtain ⟨n, rfl⟩ := hall j
    rw [hval]; exact n.isLt
  · intro i j hij
    obtain ⟨n, rfl⟩ := hall i
    obtain ⟨n', rfl⟩ := hall j
    rw [hval, hval] at hij
    rw [Fin.ext hij]

/-- The position at each place is the inverse's word there. -/
theorem Sorted.inverse {q : IVec S16384 32} (h : Sorted q) (j : S16384.Idx) :
    invWord q j = BitVec.ofNat 32 (rank q (j 0)).val := by
  have hj : (q (pos (rank q (j 0)).val)).toNat = (j 0).val := by rw [h (j 0), ofNat_toNat (idx_lt j)]
  rw [invWord_at h.isPerm hj, pos_val (rank q (j 0)).isLt]

section Pre

variable {F : FTy → Type} [FloatOps F] {x : FVec F S8192x16384 .f32} {p : FVec F S16384 .f32}

/-- A scalar has one place. -/
instance : Subsingleton Cert.Pre_permutation.S_.Idx := ⟨fun a b => funext fun i => i.elim0⟩

/-- The precondition says that the words are 0, 1, 2, … when sorted. -/
theorem pre_sorted (h : Cert.Pre_permutation.fn (F := F) x p = fun _ => 1#1) : Sorted (fptosi 32 p) := fun n => by
  have h3 : IntOp.cmpi .eq (Host.sort S16384 0 Cert.Pre_permutation.comparator_i32_d0 (fptosi 32 p) (pos n.val))
      (BitVec.ofNat 32 ((pos n.val) 0).val) = 1#1 :=
    Host.reduce_andi_all _ _ _ _ _ (congrFun h (fun a => a.elim0)) (pos n.val)
  have h4 : (pos n.val) 0 = n := Fin.ext (pos_val n.isLt)
  rw [sort_at, h4] at h3
  have h5 : IntOp.cmpi .eq (fptosi 32 p (pos (rank (fptosi 32 p) n).val)) (BitVec.ofNat 32 n.val) = 1#1 := h3
  exact beq_iff_eq.1 ((WordCmp.ofBool_eq_one_iff _).1 h5)

end Pre

/-! ## The argsort is the inverse -/

/-- Over the extended reals the reference's comparator says whether the first number is less. -/
theorem comparator_lt (a b : EReal) (u v : BitVec 32) :
    Cert.ReferenceIdeal.comparator_f32_i32_d0 (F := Ideal) (a, u) (b, v) = BitVec.ofBool (decide (a < b)) := by
  have hz : ∀ y : EReal, Scalar.select (Ideal.cmp .oeq y 0) 0 y = y := fun y => by
    by_cases h : y = 0
    · subst h; simp [Scalar.select]
    · simp [Ideal.cmp, h, Scalar.select]
  have hn : ∀ y z : EReal, Scalar.select (Ideal.cmp .une y y) z y = y := fun y z => by
    simp [Ideal.cmp, Scalar.select]
  show Ideal.cmp .olt
    (Scalar.select (Ideal.cmp .une a a) (Ideal.ofBits .f32 0x7FC00000#32)
      (Scalar.select (Ideal.cmp .oeq a (Ideal.ofBits .f32 0x00000000#32)) (Ideal.ofBits .f32 0x00000000#32) a))
    (Scalar.select (Ideal.cmp .une b b) (Ideal.ofBits .f32 0x7FC00000#32)
      (Scalar.select (Ideal.cmp .oeq b (Ideal.ofBits .f32 0x00000000#32)) (Ideal.ofBits .f32 0x00000000#32) b)) = _
  rw [Ideal.ofBits_zero_f32, hz, hz, hn, hn]
  rfl

/-- Rounding a real number toward zero keeps the order. -/
theorem towardZero_mono {a b : ℝ} (h : a ≤ b) :
    (if 0 ≤ a then ⌊a⌋ else ⌈a⌉) ≤ (if 0 ≤ b then ⌊b⌋ else ⌈b⌉) := by
  split <;> split
  · exact Int.floor_le_floor h
  · rename_i h1 h2; exact absurd (h1.trans h) h2
  · rename_i h1 h2
    exact (Int.ceil_le.2 (by push_cast; exact (not_le.1 h1).le)).trans (Int.floor_nonneg.2 h2)
  · exact Int.ceil_le_ceil h

/-- So does rounding and clamping an extended real. -/
theorem clamped_mono {lo hi : Int} (hlh : lo ≤ hi) {a b : EReal} (h : a ≤ b) :
    Ideal.toIntClamped lo hi a ≤ Ideal.toIntClamped lo hi b := by
  have hr : ∀ c : EReal, lo ≤ Ideal.toIntClamped lo hi c ∧ Ideal.toIntClamped lo hi c ≤ hi := fun c => by
    induction c using EReal.rec with
    | bot => exact ⟨le_rfl, hlh⟩
    | top => exact ⟨hlh, le_rfl⟩
    | coe r => exact ⟨le_max_left _ _, max_le hlh (min_le_left _ _)⟩
  induction a using EReal.rec with
  | bot => exact (hr b).1
  | top => rw [top_le_iff.1 h]
  | coe r =>
    induction b using EReal.rec with
    | bot => exact absurd h (by simp)
    | top => exact (hr _).2
    | coe r' => exact max_le_max le_rfl (min_le_min le_rfl (towardZero_mono (EReal.coe_le_coe_iff.1 h)))

/-- The words of extended reals are in the order of the numbers. -/
theorem fptosi_mono {a b : EReal} (h : a ≤ b) : (Ideal.fptosi 32 a).toInt ≤ (Ideal.fptosi 32 b).toInt := by
  have hv : ∀ c : EReal, (Ideal.fptosi 32 c).toInt = Ideal.toIntClamped (-2147483648) 2147483647 c := fun c => by
    have hr : -2147483648 ≤ Ideal.toIntClamped (-2147483648) 2147483647 c ∧ Ideal.toIntClamped (-2147483648) 2147483647 c ≤ 2147483647 :=
      ⟨clamped_mono (by omega) (bot_le (a := c)), clamped_mono (by omega) (le_top (a := c))⟩
    show (BitVec.ofInt 32 (Ideal.toIntClamped (-2147483648) 2147483647 c)).toInt = _
    rw [BitVec.toInt_ofInt]
    exact Int.bmod_eq_of_le (by omega) (by omega)
  rw [hv, hv]
  exact clamped_mono (by omega) h

/-- The reference's argsort of the permutation is its inverse: of two floats whose words differ the one with the
    smaller word is the smaller, so the floats are sorted as their words are. -/
theorem argsort_eq {x : FVec Ideal S8192x16384 .f32} {p : FVec Ideal S16384 .f32}
    (h : Cert.Pre_permutation.fn (F := Ideal) x p = fun _ => 1#1) :
    (Host.sort2 S16384 0 (Cert.ReferenceIdeal.comparator_f32_i32_d0 (F := Ideal)) p (iotaInDim S16384 32 0)).2
      = invWord (fptosi 32 p) := by
  have hs := pre_sorted h
  funext j
  rw [sort2_at, hs.inverse]
  have hb : sortedFrom (fun k k' : Fin 16384 => Cert.ReferenceIdeal.comparator_f32_i32_d0 (F := Ideal)
        (p (pos k.val), iotaInDim S16384 32 0 (pos k.val)) (p (pos k'.val), iotaInDim S16384 32 0 (pos k'.val)) == 1#1)
      = rank (fptosi 32 p) := by
    refine sortedFrom_congr _ _ fun k k' hk => ?_
    have hne : (fptosi 32 p (pos k.val)).toInt ≠ (fptosi 32 p (pos k'.val)).toInt := fun he => hk (by
      have := congrArg (fun z : S16384.Idx => (z 0).val) (hs.isPerm.inj _ _ (congrArg BitVec.toNat (BitVec.toInt_inj.1 he)))
      simp only [pos_val k.isLt, pos_val k'.isLt] at this
      exact Fin.ext this)
    have hiff : p (pos k.val) < p (pos k'.val)
        ↔ (fptosi 32 p (pos k.val)).toInt < (fptosi 32 p (pos k'.val)).toInt := by
      constructor
      · exact fun hlt => lt_of_le_of_ne (fptosi_mono hlt.le) hne
      · exact fun hlt => not_le.1 fun hle => absurd (fptosi_mono hle) (not_le.2 hlt)
    rw [comparator_lt]
    simp only [IntOp.cmpi, BitVec.slt, hiff]
  rw [hb]
  show BitVec.ofNat 32 ((pos (rank (fptosi 32 p) (j 0)).val) 0).val = _
  rw [pos_val (rank (fptosi 32 p) (j 0)).isLt]

/-! ## The gather -/

section Gather

open Cert.ReferenceIdeal (S16384x1 gather_S8192x16384_S16384x1_S8192x16384_0_1_n_n_1_1_81921)

variable {α : Type}

/-- The gather reads row `r` of the array at the column that the index beside column `c` names, the index read signed
    and clamped into the row. -/
theorem gather_at (x : S8192x16384.Idx → α) (idx : IVec S16384x1 32) (j : S8192x16384.Idx) (i : S16384x1.Idx)
    (hi : (i 0).val = (j 1).val) :
    Host.gather gather_S8192x16384_S16384x1_S8192x16384_0_1_n_n_1_1_81921 x idx j
      = x (cell (j 0).val (min (idx i).toInt.toNat 16383)) := by
  unfold Host.gather
  refine congrArg x ?_
  have hi' : ∀ i' : S16384x1.Idx, (i' 0).val = (j 1).val → i' = i := fun i' h => by
    funext a
    match a with
    | 0 => exact Fin.ext (h.trans hi.symm)
    | 1 => exact Subsingleton.elim (α := Fin 1) _ _
  have h01 : (0 : Fin 2) ∉ [(1 : Fin 2)] := by decide
  refine cell_ext ?_ ?_
  · rw [cell_row _ (row_lt j)]
    show GatherDims.start _ j idx 0 + GatherDims.batchCoord _ j 0 + GatherDims.offCoord _ j 0 = (j 0).val
    rw [GatherDims.batchCoord_eq_zero _ _ _ List.not_mem_nil]
    unfold GatherDims.start
    rw [dif_neg (show (0 : Fin 2) ∉ gather_S8192x16384_S16384x1_S8192x16384_0_1_n_n_1_1_81921.startIndexMap from h01), Nat.zero_add]
    unfold GatherDims.offCoord
    rw [dif_pos ((GatherDims.mem_sKept _ _).2 ⟨show (0 : Fin 2) ∉ gather_S8192x16384_S16384x1_S8192x16384_0_1_n_n_1_1_81921.collapsedSliceDims from h01, List.not_mem_nil⟩)]
    rfl
  · rw [cell_col _ (by omega)]
    show GatherDims.start _ j idx 1 + GatherDims.batchCoord _ j 1 + GatherDims.offCoord _ j 1 = _
    rw [GatherDims.batchCoord_eq_zero _ _ _ List.not_mem_nil,
      GatherDims.offCoord_eq_zero _ _ _ (fun h => ((GatherDims.mem_sKept _ _).1 h).1 (List.mem_singleton.2 rfl)),
      Nat.add_zero]
    unfold GatherDims.start
    rw [dif_pos (show (1 : Fin 2) ∈ gather_S8192x16384_S16384x1_S8192x16384_0_1_n_n_1_1_81921.startIndexMap from List.mem_singleton.2 rfl)]
    exact congrArg (fun i' => min (idx i').toInt.toNat 16383) (hi' _ rfl)

/-- A place number, as a word read signed, is itself. -/
theorem toInt_of_lt {w : BitVec 32} (h : w.toNat < 16384) : w.toInt = (w.toNat : Int) := by
  rw [BitVec.toInt_eq_toNat_of_lt (by omega)]

/-- With place numbers for indices, the reference's indexing (a negative index counted from the end, the others kept)
    takes every row at the places that they name. -/
theorem gather_eq (x : S8192x16384.Idx → α) (v : IVec S16384 32) (hv : ∀ i, (v i).toNat < 16384)
    (hb hb') (hc) :
    Host.gather gather_S8192x16384_S16384x1_S8192x16384_0_1_n_n_1_1_81921 x
        (broadcastInDim S16384x1 ![0] hc
          (select (cmpi .slt v (broadcastInDim S16384 ![] hb (constantI Cert.ReferenceIdeal.S_ 32 0#32)))
            (addi v (broadcastInDim S16384 ![] hb' (constantI Cert.ReferenceIdeal.S_ 32 16384#32))) v))
      = takenAll x v := by
  funext j
  have hsel : ∀ i, select (cmpi .slt v (broadcastInDim S16384 ![] hb (constantI Cert.ReferenceIdeal.S_ 32 0#32)))
      (addi v (broadcastInDim S16384 ![] hb' (constantI Cert.ReferenceIdeal.S_ 32 16384#32))) v i = v i := fun i => by
    have h0 : IntOp.cmpi .slt (v i) 0#32 = 0#1 := by
      have : ¬ (v i).toInt < 0 := by rw [toInt_of_lt (hv i)]; omega
      simp only [IntOp.cmpi, BitVec.slt, BitVec.toInt_zero, this, decide_false]
      rfl
    show Scalar.select (IntOp.cmpi .slt (v i) 0#32) _ (v i) = v i
    rw [h0]; rfl
  let i : S16384x1.Idx := fun a => match a with | 0 => j 1 | 1 => (⟨0, Nat.one_pos⟩ : Fin 1)
  rw [gather_at x _ j i rfl]
  have hrd : ∀ u : IVec S16384 32, broadcastInDim S16384x1 ![0] hc u i = u (pos (j 1).val) := fun u => by
    refine congrArg u (idx_ext ?_)
    rw [pos_val (col_lt j)]
    rfl
  rw [hrd, hsel, toInt_of_lt (hv _), Int.toNat_natCast, Nat.min_eq_left (by have := hv (pos (j 1).val); omega)]
  rfl

end Gather

end Cert.Permute

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_permutation
public import proofs.«01_k».proof.Proof.Permute.Launch
public import proofs.«01_k».proof.Proof.Permute.Reference
public import Idealize.ShloMosaic.Adequacy
public import Idealize.ShloMosaic.Init

@[expose] public section

noncomputable section

namespace Cert.Proof

open Idealize.ShloMosaic Idealize.SL.Sem Cert.Permute

/-- The kernel's program and its idealization have one text, so the run proved of the second, at any float values, is
    a run of the first at the machine's. -/
theorem frame_kernel : Cert.quiescent_Kernel := fun m ρ hpre =>
  (θ_run (Cert.KernelIdeal.defs (F := Bits)) _ _).mono (fun _ h => ⟨fun c => ⟨(h.1 c).2.1, (h.1 c).1⟩, h.2⟩)
    (run_main (F := Bits) m ρ fun d => (pre_sorted (hpre d)).isPerm)

/-- The ideal kernel runs, leaves its arguments unchanged and every semaphore at zero. -/
theorem frame_ideal : Cert.quiescent_KernelIdeal := fun m ρ hpre =>
  (θ_run Cert.KernelIdeal.defs _ _).mono (fun _ h => ⟨fun c => ⟨(h.1 c).2.1, (h.1 c).1⟩, h.2⟩)
    (run_main (F := Ideal) m ρ fun d => (pre_sorted (hpre d)).isPerm)

/-- The reference runs and leaves its arguments unchanged; it has no semaphore. -/
theorem frame_reference : Cert.quiescent_ReferenceIdeal := fun m ρ _ =>
  (θ_run Cert.ReferenceIdeal.defs _ _).mono
    (fun r h => ⟨fun c => ⟨(h c).2.2.1, (h c).2.2.2⟩, sem_eq_zero_of_no_sems rfl r.2⟩)
    (Cert.ReferenceIdeal.Value.run (F := Ideal) m ρ)

/-- Over the extended reals the kernel and the reference both end with every row of the array taken at the places that
    the permutation's inverse names, and with the inverse. -/
theorem values : Cert.algebraic_KernelIdeal_ReferenceIdeal := fun m ρ m' ρ' hpre hagree =>
  ⟨fun d => permuted m d, fun d => inverse m d,
    (θ_run Cert.KernelIdeal.defs _ _).mono
      (fun _ h c => ⟨(h.1 c).2.2.1, (h.1 c).2.2.2, (h.1 c).2.1, (h.1 c).1⟩)
      (run_main (F := Ideal) m ρ fun d => (pre_sorted (hpre d)).isPerm),
    (θ_run Cert.ReferenceIdeal.defs _ _).mono
      (fun r h c => by
        obtain ⟨h0, h1, h2, h3⟩ := h c
        obtain ⟨e0, e1⟩ := hagree c
        have ha := argsort_eq (hpre c)
        rw [e1] at h0 h1
        rw [e0] at h0
        refine ⟨h0.trans ?_, h1.trans ha, h2, h3⟩
        refine Eq.trans ?_ (gather_eq (m (xLoc c)) (inverse m c) (invWord_lt _)
          Cert.ReferenceIdeal.Gen.bcast_S_S16384 Cert.ReferenceIdeal.Gen.bcast_S_S16384
          Cert.ReferenceIdeal.Gen.bcast_S16384_S16384x1_0)
        rw [← show _ = inverse m c from ha])
      (Cert.ReferenceIdeal.Value.run (F := Ideal) m' ρ')⟩

theorem claim : Cert.Claim :=
  ⟨Cert.Kernel.Gen.facts, Cert.KernelIdeal.Gen.facts, Cert.ReferenceIdeal.Gen.facts, Cert.Pre_permutation.Gen.facts,
    frame_kernel, frame_ideal, frame_reference, fun m ρ _ => frame_reference m ρ trivial, trivial, values⟩

end Cert.Proof

end
